-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x200x64 : Shape := ⟨3, ![1024, 200, 64]⟩
abbrev S256x64 : Shape := ⟨2, ![256, 64]⟩
abbrev S256 : Shape := ⟨1, ![256]⟩
abbrev S_ : Shape := ⟨0, ![]⟩
abbrev S128 : Shape := ⟨1, ![128]⟩
abbrev S64 : Shape := ⟨1, ![64]⟩
abbrev S64x256 : Shape := ⟨2, ![64, 256]⟩
abbrev S1x256 : Shape := ⟨2, ![1, 256]⟩
abbrev S64x4x64 : Shape := ⟨3, ![64, 4, 64]⟩
abbrev S128x4x2x64 : Shape := ⟨4, ![128, 4, 2, 64]⟩
abbrev S1 : Shape := ⟨1, ![1]⟩
abbrev S2 : Shape := ⟨1, ![2]⟩
abbrev S128x512 : Shape := ⟨2, ![128, 512]⟩
abbrev S256x512 : Shape := ⟨2, ![256, 512]⟩
abbrev S4x64 : Shape := ⟨2, ![4, 64]⟩
abbrev S4x128 : Shape := ⟨2, ![4, 128]⟩
abbrev S512 : Shape := ⟨1, ![512]⟩
abbrev S1x512 : Shape := ⟨2, ![1, 512]⟩
abbrev S8x512 : Shape := ⟨2, ![8, 512]⟩
abbrev S1024x12800 : Shape := ⟨2, ![1024, 12800]⟩
abbrev S1024x1280 : Shape := ⟨2, ![1024, 1280]⟩
abbrev S512x128 : Shape := ⟨2, ![512, 128]⟩
abbrev S512x64 : Shape := ⟨2, ![512, 64]⟩
abbrev S512x256 : Shape := ⟨2, ![512, 256]⟩
abbrev S512x512 : Shape := ⟨2, ![512, 512]⟩

abbrev nBuf : Space → Nat
  | .hbm => 67
  | .vmem => 8
  | .smem => 0
  | _ => 0

abbrev bufTy : (tb : Table) → Fin (tcTables nBuf tb) → BufTy
  | .hbm, ⟨0, _⟩ => ⟨S1024x200x64, .f32⟩
  | .hbm, ⟨1, _⟩ => ⟨S256x64, .f32⟩
  | .hbm, ⟨2, _⟩ => ⟨S256x64, .f32⟩
  | .hbm, ⟨3, _⟩ => ⟨S256, .f32⟩
  | .hbm, ⟨4, _⟩ => ⟨S256, .f32⟩
  | .hbm, ⟨5, _⟩ => ⟨S_, .f32⟩
  | .hbm, ⟨6, _⟩ => ⟨S128, .f32⟩
  | .hbm, ⟨7, _⟩ => ⟨S_, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S256, .f32⟩
  | .hbm, ⟨12, _⟩ => ⟨S64x256, .f32⟩
  | .hbm, ⟨13, _⟩ => ⟨S1x256, .f32⟩
  | .hbm, ⟨14, _⟩ => ⟨S64x256, .f32⟩
  | .hbm, ⟨15, _⟩ => ⟨S64x256, .f32⟩
  | .hbm, ⟨16, _⟩ => ⟨S64x4x64, .f32⟩
  | .hbm, ⟨17, _⟩ => ⟨S_, .f32⟩
  | .hbm, ⟨18, _⟩ => ⟨S128x4x2x64, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S128x4x2x64, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S128x4x2x64, .f32⟩
  | .hbm, ⟨31, _⟩ => ⟨S128x512, .f32⟩
  | .hbm, ⟨32, _⟩ => ⟨S128x512, .bf16⟩
  | .hbm, ⟨33, _⟩ => ⟨S64x256, .f32⟩
  | .hbm, ⟨34, _⟩ => ⟨S1x256, .f32⟩
  | .hbm, ⟨35, _⟩ => ⟨S64x256, .f32⟩
  | .hbm, ⟨36, _⟩ => ⟨S64x256, .f32⟩
  | .hbm, ⟨37, _⟩ => ⟨S64x4x64, .f32⟩
  | .hbm, ⟨38, _⟩ => ⟨S_, .f32⟩
  | .hbm, ⟨39, _⟩ => ⟨S128x4x2x64, .f32⟩
  | .hbm, ⟨40, _⟩ => ⟨S_, .i32⟩
  | .hbm, ⟨41, _⟩ => ⟨S1, .i32⟩
  | .hbm, ⟨42, _⟩ => ⟨S_, .i32⟩
  | .hbm, ⟨43, _⟩ => ⟨S1, .i32⟩
  | .hbm, ⟨44, _⟩ => ⟨S2, .i32⟩
  | .hbm, ⟨45, _⟩ => ⟨S128x4x2x64, .f32⟩
  | .hbm, ⟨46, _⟩ => ⟨S_, .i32⟩
  | .hbm, ⟨47, _⟩ => ⟨S1, .i32⟩
  | .hbm, ⟨48, _⟩ => ⟨S_, .i32⟩
  | .hbm, ⟨49, _⟩ => ⟨S1, .i32⟩
  | .hbm, ⟨50, _⟩ => ⟨S2, .i32⟩
  | .hbm, ⟨51, _⟩ => ⟨S128x4x2x64, .f32⟩
  | .hbm, ⟨52, _⟩ => ⟨S128x512, .f32⟩
  | .hbm, ⟨53, _⟩ => ⟨S128x512, .bf16⟩
  | .hbm, ⟨54, _⟩ => ⟨S256x512, .bf16⟩
  | .hbm, ⟨55, _⟩ => ⟨S256, .f32⟩
  | .hbm, ⟨56, _⟩ => ⟨S256, .f32⟩
  | .hbm, ⟨57, _⟩ => ⟨S4x64, .f32⟩
  | .hbm, ⟨58, _⟩ => ⟨S4x128, .f32⟩
  | .hbm, ⟨59, _⟩ => ⟨S512, .f32⟩
  | .hbm, ⟨60, _⟩ => ⟨S1x512, .f32⟩
  | .hbm, ⟨61, _⟩ => ⟨S8x512, .f32⟩
  | .hbm, ⟨62, _⟩ => ⟨S1024x12800, .f32⟩
  | .hbm, ⟨63, _⟩ => ⟨S1024x12800, .bf16⟩
  | .hbm, ⟨64, _⟩ => ⟨S1024x12800, .bf16⟩
  | .hbm, ⟨65, _⟩ => ⟨S1024x200x64, .bf16⟩
  | .hbm, ⟨66, _⟩ => ⟨S1024x200x64, .f32⟩
  | .local _ .vmem, ⟨0, _⟩ => ⟨S1024x1280, .bf16⟩
  | .local _ .vmem, ⟨1, _⟩ => ⟨S1024x1280, .bf16⟩
  | .local _ .vmem, ⟨2, _⟩ => ⟨S256x512, .bf16⟩
  | .local _ .vmem, ⟨3, _⟩ => ⟨S8x512, .f32⟩
  | .local _ .vmem, ⟨4, _⟩ => ⟨S1024x1280, .bf16⟩
  | .local _ .vmem, ⟨5, _⟩ => ⟨S1024x1280, .bf16⟩
  | .local _ .vmem, ⟨6, _⟩ => ⟨S512x128, .f32⟩
  | .local _ .vmem, ⟨7, _⟩ => ⟨S512x128, .f32⟩
  | _, _ => ⟨S1024x200x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_c_5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_c_7 : Ref sig .tc := ⟨.hbm, 40, rfl⟩
abbrev main_v26 : Ref sig .tc := ⟨.hbm, 41, rfl⟩
abbrev main_c_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_9 : Ref sig .tc := ⟨.hbm, 46, rfl⟩
abbrev main_v30 : Ref sig .tc := ⟨.hbm, 47, rfl⟩
abbrev main_c_10 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1024x200x64 : Shape := ⟨3, ![1024, 200, 64]⟩
abbrev S256x64 : Shape := ⟨2, ![256, 64]⟩
abbrev S256 : Shape := ⟨1, ![256]⟩
abbrev S_ : Shape := ⟨0, ![]⟩
abbrev S1024x64 : Shape := ⟨2, ![1024, 64]⟩
abbrev S200x1024x64 : Shape := ⟨3, ![200, 1024, 64]⟩
abbrev S1x1024x64 : Shape := ⟨3, ![1, 1024, 64]⟩
abbrev S64x256 : Shape := ⟨2, ![64, 256]⟩
abbrev S1024x256 : Shape := ⟨2, ![1024, 256]⟩
abbrev S1x256 : Shape := ⟨2, ![1, 256]⟩

abbrev nBuf : Space → Nat
  | .hbm => 80
  | .vmem => 0
  | .smem => 0
  | _ => 0

abbrev bufTy : (tb : Table) → Fin (tcTables nBuf tb) → BufTy
  | .hbm, ⟨0, _⟩ => ⟨S1024x200x64, .f32⟩
  | .hbm, ⟨1, _⟩ => ⟨S256x64, .f32⟩
  | .hbm, ⟨2, _⟩ => ⟨S256x64, .f32⟩
  | .hbm, ⟨3, _⟩ => ⟨S256, .f32⟩
  | .hbm, ⟨4, _⟩ => ⟨S256, .f32⟩
  | .hbm, ⟨5, _⟩ => ⟨S_, .f32⟩
  | .hbm, ⟨6, _⟩ => ⟨S1024x64, .f32⟩
  | .hbm, ⟨7, _⟩ => ⟨S_, .f32⟩
  | .hbm, ⟨8, _⟩ => ⟨S1024x64, .f32⟩
  | .hbm, ⟨9, _⟩ => ⟨S200x1024x64, .f32⟩
  | .hbm, ⟨10, _⟩ => ⟨S_, .f32⟩
  | .hbm, ⟨11, _⟩ => ⟨S200x1024x64, .f32⟩
  | .hbm, ⟨12, _⟩ => ⟨S_, .i32⟩
  | .hbm, ⟨13, _⟩ => ⟨S200x1024x64, .f32⟩
  | .hbm, ⟨14, _⟩ => ⟨S256x64, .f32⟩
  | .hbm, ⟨15, _⟩ => ⟨S256x64, .f32⟩
  | .hbm, ⟨16, _⟩ => ⟨S256, .f32⟩
  | .hbm, ⟨17, _⟩ => ⟨S256, .f32⟩
  | .hbm, ⟨18, _⟩ => ⟨S_, .i32⟩
  | .hbm, ⟨19, _⟩ => ⟨S1024x64, .f32⟩
  | .hbm, ⟨20, _⟩ => ⟨S1024x64, .f32⟩
  | .hbm, ⟨21, _⟩ => ⟨S200x1024x64, .f32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S1x1024x64, .f32⟩
  | .hbm, ⟨27, _⟩ => ⟨S1024x64, .f32⟩
  | .hbm, ⟨28, _⟩ => ⟨S64x256, .f32⟩
  | .hbm, ⟨29, _⟩ => ⟨S1024x256, .f32⟩
  | .hbm, ⟨30, _⟩ => ⟨S64x256, .f32⟩
  | .hbm, ⟨31, _⟩ => ⟨S1024x256, .f32⟩
  | .hbm, ⟨32, _⟩ => ⟨S1024x256, .f32⟩
  | .hbm, ⟨33, _⟩ => ⟨S1x256, .f32⟩
  | .hbm, ⟨34, _⟩ => ⟨S1024x256, .f32⟩
  | .hbm, ⟨35, _⟩ => ⟨S1024x256, .f32⟩
  | .hbm, ⟨36, _⟩ => ⟨S1x256, .f32⟩
  | .hbm, ⟨37, _⟩ => ⟨S1024x256, .f32⟩
  | .hbm, ⟨38, _⟩ => ⟨S1024x256, .f32⟩
  | .hbm, ⟨39, _⟩ => ⟨S1024x64, .f32⟩
  | .hbm, ⟨40, _⟩ => ⟨S1024x64, .f32⟩
  | .hbm, ⟨41, _⟩ => ⟨S1024x64, .f32⟩
  | .hbm, ⟨42, _⟩ => ⟨S1024x64, .f32⟩
  | .hbm, ⟨43, _⟩ => ⟨S1024x64, .f32⟩
  | .hbm, ⟨44, _⟩ => ⟨S1024x64, .f32⟩
  | .hbm, ⟨45, _⟩ => ⟨S_, .f32⟩
  | .hbm, ⟨46, _⟩ => ⟨S1024x64, .f32⟩
  | .hbm, ⟨47, _⟩ => ⟨S1024x64, .f32⟩
  | .hbm, ⟨48, _⟩ => ⟨S_, .f32⟩
  | .hbm, ⟨49, _⟩ => ⟨S1024x64, .f32⟩
  | .hbm, ⟨50, _⟩ => ⟨S1024x64, .f32⟩
  | .hbm, ⟨51, _⟩ => ⟨S1024x64, .f32⟩
  | .hbm, ⟨52, _⟩ => ⟨S1024x64, .f32⟩
  | .hbm, ⟨53, _⟩ => ⟨S_, .f32⟩
  | .hbm, ⟨54, _⟩ => ⟨S1024x64, .f32⟩
  | .hbm, ⟨55, _⟩ => ⟨S1024x64, .f32⟩
  | .hbm, ⟨56, _⟩ => ⟨S_, .f32⟩
  | .hbm, ⟨57, _⟩ => ⟨S1024x64, .f32⟩
  | .hbm, ⟨58, _⟩ => ⟨S1024x64, .f32⟩
  | .hbm, ⟨59, _⟩ => ⟨S1024x64, .f32⟩
  | .hbm, ⟨60, _⟩ => ⟨S1024x64, .f32⟩
  | .hbm, ⟨61, _⟩ => ⟨S1024x64, .f32⟩
  | .hbm, ⟨62, _⟩ => ⟨S_, .f32⟩
  | .hbm, ⟨63, _⟩ => ⟨S1024x64, .f32⟩
  | .hbm, ⟨64, _⟩ => ⟨S1024x64, .f32⟩
  | .hbm, ⟨65, _⟩ => ⟨S_, .f32⟩
  | .hbm, ⟨66, _⟩ => ⟨S1024x64, .f32⟩
  | .hbm, ⟨67, _⟩ => ⟨S1024x64, .f32⟩
  | .hbm, ⟨68, _⟩ => ⟨S1024x64, .f32⟩
  | .hbm, ⟨69, _⟩ => ⟨S1024x64, .f32⟩
  | .hbm, ⟨70, _⟩ => ⟨S1024x64, .f32⟩
  | .hbm, ⟨71, _⟩ => ⟨S1024x64, .f32⟩
  | .hbm, ⟨72, _⟩ => ⟨S1024x64, .f32⟩
  | .hbm, ⟨73, _⟩ => ⟨S1x1024x64, .f32⟩
  | .hbm, ⟨74, _⟩ => ⟨S_, .i32⟩
  | .hbm, ⟨75, _⟩ => ⟨S_, .i32⟩
  | .hbm, ⟨76, _⟩ => ⟨S200x1024x64, .f32⟩
  | .hbm, ⟨77, _⟩ => ⟨S_, .i32⟩
  | .hbm, ⟨78, _⟩ => ⟨S_, .i32⟩
  | .hbm, ⟨79, _⟩ => ⟨S1024x200x64, .f32⟩
  | _, _ => ⟨S1024x200x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_c : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev main_v4_5 : Ref sig .tc := ⟨.hbm, 18, rfl⟩
abbrev main_v4_6 : Ref sig .tc := ⟨.hbm, 19, rfl⟩
abbrev main_v4_7 : Ref sig .tc := ⟨.hbm, 20, rfl⟩
abbrev main_v4_8 : Ref sig .tc := ⟨.hbm, 21, rfl⟩
abbrev main_while0c_c_10 : Ref sig .tc := ⟨.hbm, 22, rfl⟩
abbrev main_while0c_v6 : Ref sig .tc := ⟨.hbm, 23, rfl⟩
abbrev main_while0b_call0_c : Ref sig .tc := ⟨.hbm, 24, rfl⟩
abbrev main_while0b_call0_c_0 : Ref sig .tc := ⟨.hbm, 25, rfl⟩
abbrev main_while0b_call0_v0 : Ref sig .tc := ⟨.hbm, 26, rfl⟩
abbrev main_while0b_v6 : Ref sig .tc := ⟨.hbm, 27, rfl⟩
abbrev main_while0b_v7 : Ref sig .tc := ⟨.hbm, 28, rfl⟩
abbrev main_while0b_v8 : Ref sig .tc := ⟨.hbm, 29, rfl⟩
abbrev main_while0b_v9 : Ref sig .tc := ⟨.hbm, 30, rfl⟩
abbrev main_while0b_v10 : Ref sig .tc := ⟨.hbm, 31, rfl⟩
abbrev main_while0b_v11 : Ref sig .tc := ⟨.hbm, 32, rfl⟩
abbrev main_while0b_v12 : Ref sig .tc := ⟨.hbm, 33, rfl⟩
abbrev main_while0b_v13 : Ref sig .tc := ⟨.hbm, 34, rfl⟩
abbrev main_while0b_v14 : Ref sig .tc := ⟨.hbm, 35, rfl⟩
abbrev main_while0b_v15 : Ref sig .tc := ⟨.hbm, 36, rfl⟩
abbrev main_while0b_v16 : Ref sig .tc := ⟨.hbm, 37, rfl⟩
abbrev main_while0b_v17 : Ref sig .tc := ⟨.hbm, 38, rfl⟩
abbrev main_while0b_v18 : Ref sig .tc := ⟨.hbm, 39, rfl⟩
abbrev main_while0b_v19 : Ref sig .tc := ⟨.hbm, 40, rfl⟩
abbrev main_while0b_v20 : Ref sig .tc := ⟨.hbm, 41, rfl⟩
abbrev main_while0b_v21 : Ref sig .tc := ⟨.hbm, 42, rfl⟩
abbrev main_while0b_v22 : Ref sig .tc := ⟨.hbm, 43, rfl⟩
abbrev main_while0b_v23 : Ref sig .tc := ⟨.hbm, 44, rfl⟩
abbrev main_while0b_cst_10 : Ref sig .tc := ⟨.hbm, 45, rfl⟩
abbrev main_while0b_v24 : Ref sig .tc := ⟨.hbm, 46, rfl⟩
abbrev main_while0b_v25 : Ref sig .tc := ⟨.hbm, 47, rfl⟩
abbrev main_while0b_cst_11 : Ref sig .tc := ⟨.hbm, 48, rfl⟩
abbrev main_while0b_v26 : Ref sig .tc := ⟨.hbm, 49, rfl⟩
abbrev main_while0b_v27 : Ref sig .tc := ⟨.hbm, 50, rfl⟩
abbrev main_while0b_v28 : Ref sig .tc := ⟨.hbm, 51, rfl⟩
abbrev main_while0b_v29 : Ref sig .tc := ⟨.hbm, 52, rfl⟩
abbrev main_while0b_cst_12 : Ref sig .tc := ⟨.hbm, 53, rfl⟩
abbrev main_while0b_v30 : Ref sig .tc := ⟨.hbm, 54, rfl⟩
abbrev main_while0b_v31 : Ref sig .tc := ⟨.hbm, 55, rfl⟩
abbrev main_while0b_cst_13 : Ref sig .tc := ⟨.hbm, 56, rfl⟩
abbrev main_while0b_v32 : Ref sig .tc := ⟨.hbm, 57, rfl⟩
abbrev main_while0b_v33 : Ref sig .tc := ⟨.hbm, 58, rfl⟩
abbrev main_while0b_v34 : Ref sig .tc := ⟨.hbm, 59, rfl⟩
abbrev main_while0b_v35 : Ref sig .tc := ⟨.hbm, 60, rfl⟩
abbrev main_while0b_v36 : Ref sig .tc := ⟨.hbm, 61, rfl⟩
abbrev main_while0b_cst_14 : Ref sig .tc := ⟨.hbm, 62, rfl⟩
abbrev main_while0b_v37 : Ref sig .tc := ⟨.hbm, 63, rfl⟩
abbrev main_while0b_v38 : Ref sig .tc := ⟨.hbm, 64, rfl⟩
abbrev main_while0b_cst_15 : Ref sig .tc := ⟨.hbm, 65, rfl⟩
abbrev main_while0b_v39 : Ref sig .tc := ⟨.hbm, 66, rfl⟩
abbrev main_while0b_v40 : Ref sig .tc := ⟨.hbm, 67, rfl⟩
abbrev main_while0b_v41 : Ref sig .tc := ⟨.hbm, 68, rfl⟩
abbrev main_while0b_v42 : Ref sig .tc := ⟨.hbm, 69, rfl⟩
abbrev main_while0b_v43 : Ref sig .tc := ⟨.hbm, 70, rfl⟩
abbrev main_while0b_v44 : Ref sig .tc := ⟨.hbm, 71, rfl⟩
abbrev main_while0b_v45 : Ref sig .tc := ⟨.hbm, 72, rfl⟩
abbrev main_while0b_call1_v0 : Ref sig .tc := ⟨.hbm, 73, rfl⟩
abbrev main_while0b_call1_c : Ref sig .tc := ⟨.hbm, 74, rfl⟩
abbrev main_while0b_call1_c_0 : Ref sig .tc := ⟨.hbm, 75, rfl⟩
abbrev main_while0b_v46 : Ref sig .tc := ⟨.hbm, 76, rfl⟩
abbrev main_while0b_c_16 : Ref sig .tc := ⟨.hbm, 77, rfl⟩
abbrev main_while0b_v47 : Ref sig .tc := ⟨.hbm, 78, rfl⟩
abbrev main_v5 : Ref sig .tc := ⟨.hbm, 79, rfl⟩

abbrev nD : Nat := 1
abbrev τ : Topo := Topo.v7x

variable {F : FTy → Type} [FloatOps F]

abbrev main_while0_count : Scf.Loop 32 := ⟨0#32, 200#32, 1#32⟩
-- ==== Proof.Block.lean ====
/-
What one grid point of the kernel computes.

The body is twenty copies of one time step. A step takes the carried pair `(h, c)` and two 512 x 64 tiles of the input
(the two halves of the batch) and returns the next pair; after each step the two halves of the new `h` are stored into
the output tile. Here the step is written once, the carried pair after `n` steps by recursion, and the twenty unrolled
copies are shown to be these.
-/
module

public import proofs.«01_k».proof.Proof.Gen.KernelIdeal.Frame
public import Idealize.ShloMosaic.Lib.Pipeline.ValueKit

@[expose] public section

set_option maxRecDepth 16384

noncomputable section

namespace Cert.Lstm

open Idealize.ShloMosaic Idealize.ShloMosaic.TcCoe
open Cert.KernelIdeal Cert.KernelIdeal.Gen

variable {F : FTy → Type} [FloatOps F]

/-- The carried pair: the hidden and the cell state, the two halves of the batch side by side. -/
structure Carry (F : FTy → Type) where
  h : FVec F S512x128 .f32
  c : FVec F S512x128 .f32

/-- The four gates before their nonlinearities: the input tiles and `h` side by side, times the weights, plus the bias. -/
def gatesC (W : FVec F S256x512 .bf16) (b : FVec F S1x512 .f32) (h : FVec F S512x128 .f32) (xa xb : Vec F S512x64 .bf16) : FVec F S512x512 .f32 :=
  addf (matmul dot_S512x256_S256x512_S512x512_1_0_0_1_n_n none
      (concatenate S512x256 1 [⟨S512x64, shapeCast S512x64 xa shapeCasts_S512x64_S512x64⟩, ⟨S512x64, shapeCast S512x64 xb shapeCasts_S512x64_S512x64⟩,
        ⟨S512x128, truncf .bf16 h bitsLt_bf16_f32⟩] concatenates_S512x64_S512x64_S512x128_S512x256_d1)
      W (constant S512x512 .f32 0x00000000#32))
    (broadcastTo S512x512 b broadcasts_S1x512_S512x512)

/-- The constant one half. -/
def halfC : FVec F S512x128 .f32 := broadcast S512x128 (Scalar.ofBits .f32 0x3F000000#32)

/-- A gate of the logistic kind, from the hyperbolic tangent of half its argument. -/
def openC (z : FVec F S512x128 .f32) : FVec F S512x128 .f32 := addf (mulf (tanh z) halfC) halfC

/-- The new cell state from the gates `g` and the old one. -/
def cellC (g : FVec F S512x512 .f32) (c : FVec F S512x128 .f32) : FVec F S512x128 .f32 :=
  addf (mulf (openC (extractStridedSlice S512x128 ![0, 128] g slices_S512x512_o0_128_S512x128)) c)
    (mulf (openC (extractStridedSlice S512x128 ![0, 0] g slices_S512x512_o0_0_S512x128))
      (tanh (extractStridedSlice S512x128 ![0, 256] g slices_S512x512_o0_256_S512x128)))

/-- The new hidden state from the gates and the new cell state. -/
def hiddenC (g : FVec F S512x512 .f32) (c : FVec F S512x128 .f32) : FVec F S512x128 .f32 :=
  mulf (openC (extractStridedSlice S512x128 ![0, 384] g slices_S512x512_o0_384_S512x128)) (tanh c)

/-- One time step from the carried pair `p`, the weights `W`, the bias row `b` and the two input tiles. -/
def stepC (W : FVec F S256x512 .bf16) (b : FVec F S1x512 .f32) (xa xb : Vec F S512x64 .bf16) (p : Carry F) : Carry F where
  h := hiddenC (gatesC W b p.h xa xb) (cellC (gatesC W b p.h xa xb) p.c)
  c := cellC (gatesC W b p.h xa xb) p.c

/-- The pair after `n` steps, the input tiles given step by step. -/
def walk (W : FVec F S256x512 .bf16) (b : FVec F S1x512 .f32) (xa xb : ℕ → Vec F S512x64 .bf16) (p : Carry F) : ℕ → Carry F
  | 0 => p
  | n + 1 => stepC W b (xa n) (xb n) (walk W b xa xb p n)

theorem inb_tile (r s : ℕ) (hr : r ≤ 512) : ∀ a, (![r, 64 * (s % 20)] : Fin 2 → Nat) a + S512x64.size a ≤ S1024x1280.size a := by
  intro a
  have : s % 20 < 20 := Nat.mod_lt _ (by decide)
  fin_cases a <;> simp <;> omega

/-- The tile of step `s` in the rows from `r`. -/
def tile (r : ℕ) (hr : r ≤ 512) (s : ℕ) : Rect S1024x1280 := Rect.unit ![r, 64 * (s % 20)] S512x64.size (inb_tile r s hr)

/-- The first half of the batch, in the output's type. -/
def lo (h : FVec F S512x128 .f32) : FVec F S512x64 .bf16 :=
  extractStridedSlice S512x64 ![0, 0] (truncf .bf16 h bitsLt_bf16_f32) slices_S512x128_o0_0_S512x64

/-- The second half. -/
def hi (h : FVec F S512x128 .f32) : FVec F S512x64 .bf16 :=
  extractStridedSlice S512x64 ![0, 64] (truncf .bf16 h bitsLt_bf16_f32) slices_S512x128_o0_64_S512x64

/-- What the first `n` steps store, the last store first. -/
def stores (W : FVec F S256x512 .bf16) (b : FVec F S1x512 .f32) (xa xb : ℕ → Vec F S512x64 .bf16) (p : Carry F) :
    ℕ → List (View.Piece (Elt F) S1024x1280 .bf16)
  | 0 => []
  | n + 1 => ⟨tile 512 (by decide) n, hi (walk W b xa xb p (n + 1)).h⟩ :: ⟨tile 0 (by decide) n, lo (walk W b xa xb p (n + 1)).h⟩
      :: stores W b xa xb p n

open Idealize.ShloMosaic.Tactic

/-- A carried buffer is stored through a cast to its own shape. -/
def kept (v : FVec F S512x128 .f32) : FVec F S512x128 .f32 := shapeCast S512x128 v shapeCasts_S512x128_S512x128

section Points

variable (c : Dev nD) (i : grid0.Coords) (arg1 : Memref sig .tc .vmem S1024x1280 .bf16) (harg1 : arg1.IsWhole)
  (arg2 : Memref sig .tc .vmem S256x512 .bf16) (harg2 : arg2.IsWhole) (arg3 : Memref sig .tc .vmem S8x512 .f32) (harg3 : arg3.IsWhole)
  (arg4 : Memref sig .tc .vmem S1024x1280 .bf16) (harg4 : arg4.IsWhole) (arg5 : Memref sig .tc .vmem S512x128 .f32) (harg5 : arg5.IsWhole)
  (arg6 : Memref sig .tc .vmem S512x128 .f32) (harg6 : arg6.IsWhole)
  (x0 : Vec F S1024x1280 .bf16) (x1 : Vec F S256x512 .bf16) (x2 : Vec F S8x512 .f32) (xs0 xs1 : Vec F S512x128 .f32)

/-- The whole rectangle of a carried buffer. -/
abbrev wholeS : Rect S512x128 := Rect.unit ![0, 0] S512x128.size inb_S512x128_S512x128_0_0

/-- The weights as the body reads them. -/
def weights : FVec F S256x512 .bf16 :=
  k0_pay5 (View.readAt (Elt F) arg2.view (Rect.unit ![0, 0] S256x512.size inb_S256x512_S256x512_0_0).toLoadRect (harg2.unread x1))

/-- The bias row as the body reads it. -/
def biasRow : FVec F S1x512 .f32 :=
  k0_pay6 (View.readAt (Elt F) arg3.view (Rect.unit (s := S8x512) ![0, 0] S1x512.size inb_S8x512_S1x512_0_0).toLoadRect (harg3.unread x2))

/-- The input tile of step `s` as the body reads it. -/
def tileRead (r : ℕ) (hr : r ≤ 512) (s : ℕ) : Vec F S512x64 .bf16 :=
  View.readAt (Elt F) arg1.view (tile r hr s).toLoadRect (harg1.unread x0)

/-- The pair a later point starts from. -/
def carried : Carry F where
  h := View.readAt (Elt F) arg5.view wholeS.toLoadRect (harg5.unread xs0)
  c := View.readAt (Elt F) arg6.view wholeS.toLoadRect (harg6.unread xs1)

/-- The pair the first point starts from, read back from the two fills. -/
def started : Carry F where
  h := arg5.view.readCov [(⟨wholeS, k0_pay3⟩ : View.Piece (Elt F) S512x128 .f32)] wholeS.toLoadRect
  c := arg6.view.readCov [(⟨wholeS, k0_pay4⟩ : View.Piece (Elt F) S512x128 .f32)] wholeS.toLoadRect

theorem piecesA (hc0 : cond0_0 i) :
    (kernelRun0_A c i arg1 harg1 arg2 harg2 arg3 harg3 arg4 harg4 arg5 harg5 arg6 harg6 hc0 x0 x1 x2).1
      = stores (weights arg2 harg2 x1) (biasRow arg3 harg3 x2) (tileRead arg1 harg1 x0 0 (by decide)) (tileRead arg1 harg1 x0 512 (by decide))
          (started arg5 arg6) 20 := by
  sl_kernel_rfl

theorem hiddenA (hc0 : cond0_0 i) :
    (kernelRun0_A c i arg1 harg1 arg2 harg2 arg3 harg3 arg4 harg4 arg5 harg5 arg6 harg6 hc0 x0 x1 x2).2.1
      = [⟨wholeS, kept (walk (weights arg2 harg2 x1) (biasRow arg3 harg3 x2) (tileRead arg1 harg1 x0 0 (by decide))
          (tileRead arg1 harg1 x0 512 (by decide)) (started arg5 arg6) 20).h⟩, ⟨wholeS, k0_pay3⟩] := by
  sl_kernel_rfl

theorem cellA (hc0 : cond0_0 i) :
    (kernelRun0_A c i arg1 harg1 arg2 harg2 arg3 harg3 arg4 harg4 arg5 harg5 arg6 harg6 hc0 x0 x1 x2).2.2.1
      = [⟨wholeS, kept (walk (weights arg2 harg2 x1) (biasRow arg3 harg3 x2) (tileRead arg1 harg1 x0 0 (by decide))
          (tileRead arg1 harg1 x0 512 (by decide)) (started arg5 arg6) 20).c⟩, ⟨wholeS, k0_pay4⟩] := by
  sl_kernel_rfl

theorem piecesB (hc0 : ¬cond0_0 i) :
    (kernelRun0_B c i arg1 harg1 arg2 harg2 arg3 harg3 arg4 harg4 arg5 harg5 arg6 harg6 hc0 x0 x1 x2 xs0 xs1).1
      = stores (weights arg2 harg2 x1) (biasRow arg3 harg3 x2) (tileRead arg1 harg1 x0 0 (by decide)) (tileRead arg1 harg1 x0 512 (by decide))
          (carried arg5 harg5 arg6 harg6 xs0 xs1) 20 := by
  sl_kernel_rfl

theorem hiddenB (hc0 : ¬cond0_0 i) :
    (kernelRun0_B c i arg1 harg1 arg2 harg2 arg3 harg3 arg4 harg4 arg5 harg5 arg6 harg6 hc0 x0 x1 x2 xs0 xs1).2.1
      = [⟨wholeS, kept (walk (weights arg2 harg2 x1) (biasRow arg3 harg3 x2) (tileRead arg1 harg1 x0 0 (by decide))
          (tileRead arg1 harg1 x0 512 (by decide)) (carried arg5 harg5 arg6 harg6 xs0 xs1) 20).h⟩] := by
  sl_kernel_rfl

theorem cellB (hc0 : ¬cond0_0 i) :
    (kernelRun0_B c i arg1 harg1 arg2 harg2 arg3 harg3 arg4 harg4 arg5 harg5 arg6 harg6 hc0 x0 x1 x2 xs0 xs1).2.2.1
      = [⟨wholeS, kept (walk (weights arg2 harg2 x1) (biasRow arg3 harg3 x2) (tileRead arg1 harg1 x0 0 (by decide))
          (tileRead arg1 harg1 x0 512 (by decide)) (carried arg5 harg5 arg6 harg6 xs0 xs1) 20).c⟩] := by
  sl_kernel_rfl

/-! ## The same through the contents of the buffers -/

/-- The carried pair after `n` steps of a point, from the point's three input blocks. -/
def blockWalk (p : Carry F) (n : ℕ) : Carry F :=
  walk (k0_pay5 x1) (k0_pay6 (View.ld x2 (Rect.unit (s := S8x512) ![0, 0] S1x512.size inb_S8x512_S1x512_0_0)))
    (fun s => View.ld x0 (tile 0 (by decide) s)) (fun s => View.ld x0 (tile 512 (by decide) s)) p n

/-- The stores of the first `n` steps of a point. -/
def blockStores (p : Carry F) (n : ℕ) : List (View.Piece (Elt F) S1024x1280 .bf16) :=
  stores (k0_pay5 x1) (k0_pay6 (View.ld x2 (Rect.unit (s := S8x512) ![0, 0] S1x512.size inb_S8x512_S1x512_0_0)))
    (fun s => View.ld x0 (tile 0 (by decide) s)) (fun s => View.ld x0 (tile 512 (by decide) s)) p n

theorem weights_eq : weights arg2 harg2 x1 = k0_pay5 x1 := by
  unfold weights
  rw [View.readAt_eq_ld, Memref.IsWhole.read_unread, View.ld_unit_lit _ _ (by decide)]

theorem biasRow_eq : biasRow arg3 harg3 x2
    = k0_pay6 (View.ld x2 (Rect.unit (s := S8x512) ![0, 0] S1x512.size inb_S8x512_S1x512_0_0)) := by
  unfold biasRow
  rw [View.readAt_eq_ld, Memref.IsWhole.read_unread]

theorem tileRead_eq (r : ℕ) (hr : r ≤ 512) : tileRead arg1 harg1 x0 r hr = fun s => View.ld x0 (tile r hr s) := by
  funext s
  unfold tileRead
  rw [View.readAt_eq_ld, Memref.IsWhole.read_unread]

theorem carried_eq : carried arg5 harg5 arg6 harg6 xs0 xs1 = ⟨xs0, xs1⟩ := by
  unfold carried
  rw [View.readAt_eq_ld, Memref.IsWhole.read_unread, View.ld_unit_lit _ _ (by decide),
    View.readAt_eq_ld, Memref.IsWhole.read_unread, View.ld_unit_lit _ _ (by decide)]

theorem kept_eq (v : FVec F S512x128 .f32) : kept v = v := shapeCast_self _ _

variable [∀ e, Nonempty (Elt F e)]

theorem started_eq : started (F := F) arg5 arg6 = ⟨k0_pay3, k0_pay4⟩ := by
  unfold started
  rw [View.readCov_unit_lit _ _ _ (by decide), View.readCov_unit_lit _ _ _ (by decide)]

/-- What the first point leaves in the output tile. -/
theorem out_A (hc0 : cond0_0 i) :
    out0_A_3 c i arg1 harg1 arg2 harg2 arg3 harg3 arg4 harg4 arg5 harg5 arg6 harg6 hc0 x0 x1 x2
      = View.canon (blockStores x0 x1 x2 ⟨k0_pay3, k0_pay4⟩ 20) := by
  unfold out0_A_3 blockStores
  rw [View.read_writes_eq_canon _ _ _ (cover0_A_3 c i arg1 harg1 arg2 harg2 arg3 harg3 arg4 harg4 arg5 harg5 arg6 harg6 hc0 x0 x1 x2),
    piecesA, weights_eq, biasRow_eq, tileRead_eq, tileRead_eq, started_eq]

theorem hidden_A (hc0 : cond0_0 i) :
    sout0_A_0 c i arg1 harg1 arg2 harg2 arg3 harg3 arg4 harg4 arg5 harg5 arg6 harg6 hc0 x0 x1 x2
      = (blockWalk x0 x1 x2 ⟨k0_pay3, k0_pay4⟩ 20).h := by
  unfold sout0_A_0 blockWalk
  rw [View.read_writes_eq_canon _ _ _ (scover0_A_0 c i arg1 harg1 arg2 harg2 arg3 harg3 arg4 harg4 arg5 harg5 arg6 harg6 hc0 x0 x1 x2),
    hiddenA, weights_eq, biasRow_eq, tileRead_eq, tileRead_eq, started_eq, View.canon_cons_unit_lit _ _ _ (by decide), kept_eq]

theorem cell_A (hc0 : cond0_0 i) :
    sout0_A_1 c i arg1 harg1 arg2 harg2 arg3 harg3 arg4 harg4 arg5 harg5 arg6 harg6 hc0 x0 x1 x2
      = (blockWalk x0 x1 x2 ⟨k0_pay3, k0_pay4⟩ 20).c := by
  unfold sout0_A_1 blockWalk
  rw [View.read_writes_eq_canon _ _ _ (scover0_A_1 c i arg1 harg1 arg2 harg2 arg3 harg3 arg4 harg4 arg5 harg5 arg6 harg6 hc0 x0 x1 x2),
    cellA, weights_eq, biasRow_eq, tileRead_eq, tileRead_eq, started_eq, View.canon_cons_unit_lit _ _ _ (by decide), kept_eq]

/-- What a later point leaves in the output tile. -/
theorem out_B (hc0 : ¬cond0_0 i) :
    out0_B_3 c i arg1 harg1 arg2 harg2 arg3 harg3 arg4 harg4 arg5 harg5 arg6 harg6 hc0 x0 x1 x2 xs0 xs1
      = View.canon (blockStores x0 x1 x2 ⟨xs0, xs1⟩ 20) := by
  unfold out0_B_3 blockStores
  rw [View.read_writes_eq_canon _ _ _ (cover0_B_3 c i arg1 harg1 arg2 harg2 arg3 harg3 arg4 harg4 arg5 harg5 arg6 harg6 hc0 x0 x1 x2 xs0 xs1),
    piecesB, weights_eq, biasRow_eq, tileRead_eq, tileRead_eq, carried_eq]

theorem hidden_B (hc0 : ¬cond0_0 i) :
    sout0_B_0 c i arg1 harg1 arg2 harg2 arg3 harg3 arg4 harg4 arg5 harg5 arg6 harg6 hc0 x0 x1 x2 xs0 xs1
      = (blockWalk x0 x1 x2 ⟨xs0, xs1⟩ 20).h := by
  unfold sout0_B_0 blockWalk
  rw [View.read_writes_eq_canon _ _ _ (scover0_B_0 c i arg1 harg1 arg2 harg2 arg3 harg3 arg4 harg4 arg5 harg5 arg6 harg6 hc0 x0 x1 x2 xs0 xs1),
    hiddenB, weights_eq, biasRow_eq, tileRead_eq, tileRead_eq, carried_eq, View.canon_cons_unit_lit _ _ _ (by decide), kept_eq]

theorem cell_B (hc0 : ¬cond0_0 i) :
    sout0_B_1 c i arg1 harg1 arg2 harg2 arg3 harg3 arg4 harg4 arg5 harg5 arg6 harg6 hc0 x0 x1 x2 xs0 xs1
      = (blockWalk x0 x1 x2 ⟨xs0, xs1⟩ 20).c := by
  unfold sout0_B_1 blockWalk
  rw [View.read_writes_eq_canon _ _ _ (scover0_B_1 c i arg1 harg1 arg2 harg2 arg3 harg3 arg4 harg4 arg5 harg5 arg6 harg6 hc0 x0 x1 x2 xs0 xs1),
    cellB, weights_eq, biasRow_eq, tileRead_eq, tileRead_eq, carried_eq, View.canon_cons_unit_lit _ _ _ (by decide), kept_eq]

end Points

/-! ## The output tile at an index -/

section Tile

variable [∀ e, Nonempty (Elt F e)] (x0 : Vec F S1024x1280 .bf16) (x1 : Vec F S256x512 .bf16) (x2 : Vec F S8x512 .f32) (p : Carry F)

theorem blockWalk_succ (n : ℕ) : blockWalk x0 x1 x2 p (n + 1)
    = stepC (k0_pay5 x1) (k0_pay6 (View.ld x2 (Rect.unit (s := S8x512) ![0, 0] S1x512.size inb_S8x512_S1x512_0_0)))
        (View.ld x0 (tile 0 (by decide) n)) (View.ld x0 (tile 512 (by decide) n)) (blockWalk x0 x1 x2 p n) := by
  simp only [blockWalk, walk]

theorem blockStores_succ (n : ℕ) : blockStores x0 x1 x2 p (n + 1) = ⟨tile 512 (by decide) n, hi (blockWalk x0 x1 x2 p (n + 1)).h⟩
    :: ⟨tile 0 (by decide) n, lo (blockWalk x0 x1 x2 p (n + 1)).h⟩ :: blockStores x0 x1 x2 p n := by
  simp only [blockStores, blockWalk, stores]

theorem tile_row (r : ℕ) (hr : r ≤ 512) (s : ℕ) (x : S512x64.Idx) : (((tile r hr s).emb x 0 : Fin _) : ℕ) = r + (x 0 : ℕ) := by
  change r + 1 * (x 0 : ℕ) = _
  omega

theorem tile_col (r : ℕ) (hr : r ≤ 512) (s : ℕ) (hs : s < 20) (x : S512x64.Idx) :
    (((tile r hr s).emb x 1 : Fin _) : ℕ) = 64 * s + (x 1 : ℕ) := by
  change 64 * (s % 20) + 1 * (x 1 : ℕ) = _
  rw [Nat.mod_eq_of_lt hs]
  omega

attribute [irreducible] blockWalk blockStores

theorem not_mem_tile_col (r : ℕ) (hr : r ≤ 512) (n : ℕ) (hn : n < 20) (y : S1024x1280.Idx) (h : (y 1 : ℕ) < 64 * n) :
    y ∉ (tile r hr n).set := by
  intro hy
  have h1 : 64 * (n % 20) ≤ (y 1 : ℕ) := ((Rect.mem_set_unit.mp hy) 1).1
  rw [Nat.mod_eq_of_lt hn] at h1
  omega

theorem not_mem_tile_row (n : ℕ) (y : S1024x1280.Idx) (h : (y 0 : ℕ) < 512) : y ∉ (tile 512 (by decide) n).set := by
  intro hy
  have h1 : 512 ≤ (y 0 : ℕ) := ((Rect.mem_set_unit.mp hy) 0).1
  omega

/-- A tile of an earlier step meets no tile of step `n`. -/
theorem earlier_not_mem (r r' : ℕ) (hr : r ≤ 512) (hr' : r' ≤ 512) (s n : ℕ) (hs : s < n) (hn : n < 20) (x : S512x64.Idx) :
    (tile r hr s).emb x ∉ (tile r' hr' n).set := by
  have hcol := tile_col r hr s (by omega) x
  have hlt : (x 1 : ℕ) < 64 := (x 1).isLt
  exact not_mem_tile_col r' hr' n hn _ (by omega)

/-- A tile of the upper rows meets no tile of the lower rows. -/
theorem upper_not_mem (s n : ℕ) (x : S512x64.Idx) : (tile 0 (by decide) s).emb x ∉ (tile 512 (by decide) n).set := by
  have hrow := tile_row 0 (by decide) s x
  have hlt : (x 0 : ℕ) < 512 := (x 0).isLt
  exact not_mem_tile_row n _ (by omega)

/-- Rows below 512 hold the first half of the batch. -/
theorem tile_lo (s : ℕ) (x : S512x64.Idx) (n : ℕ) (hs : s < n) (hn : n ≤ 20) :
    View.canon (blockStores x0 x1 x2 p n) ((tile 0 (by decide) s).emb x) = lo (blockWalk x0 x1 x2 p (s + 1)).h x := by
  induction n with
  | zero => omega
  | succ n ih =>
    rw [blockStores_succ]
    refine Eq.trans (View.canon_cons_of_not_mem _ _ ?_) ?_
    · exact upper_not_mem s n x
    rcases Nat.lt_succ_iff_lt_or_eq.mp hs with h | h
    · refine Eq.trans (View.canon_cons_of_not_mem _ _ ?_) (ih h (by omega))
      exact earlier_not_mem 0 0 (by decide) (by decide) s n h (by omega) x
    · subst h
      exact View.canon_cons_emb (Val := Elt F) (e := .bf16) (tile 0 (by decide) s) (lo (blockWalk x0 x1 x2 p (s + 1)).h) (blockStores x0 x1 x2 p s) x

/-- Rows from 512 hold the second half. -/
theorem tile_hi (s : ℕ) (x : S512x64.Idx) (n : ℕ) (hs : s < n) (hn : n ≤ 20) :
    View.canon (blockStores x0 x1 x2 p n) ((tile 512 (by decide) s).emb x) = hi (blockWalk x0 x1 x2 p (s + 1)).h x := by
  induction n with
  | zero => omega
  | succ n ih =>
    rw [blockStores_succ]
    rcases Nat.lt_succ_iff_lt_or_eq.mp hs with h | h
    · refine Eq.trans (View.canon_cons_of_not_mem _ _ ?_) (Eq.trans (View.canon_cons_of_not_mem _ _ ?_) (ih h (by omega)))
      · exact earlier_not_mem 512 512 (by decide) (by decide) s n h (by omega) x
      · exact earlier_not_mem 512 0 (by decide) (by decide) s n h (by omega) x
    · subst h
      exact View.canon_cons_emb (Val := Elt F) (e := .bf16) (tile 512 (by decide) s) (hi (blockWalk x0 x1 x2 p (s + 1)).h) _ x

end Tile

end Cert.Lstm
-- ==== Proof.Array.lean ====
/-
What the kernel's result array holds after the run.

Grid point `t` takes the time steps from `20 t` to `20 t + 19`, so the carried pair after point `t` is the pair after
`20 (t + 1)` steps over the whole input array, and the column block `n` of the result array (64 columns) is the hidden
state after step `n`: the first half of the batch in the rows below 512, the second half in the rows from 512.
-/
module

public import proofs.«01_k».proof.Proof.Block
public import Idealize.ShloMosaic.Lib.Pointwise

@[expose] public section

set_option maxRecDepth 16384

noncomputable section

namespace Cert.Lstm

open Idealize.ShloMosaic Idealize.ShloMosaic.TcCoe Idealize.SL.Sem
open Idealize.ShloMosaic.Pipeline (Dat)
open Cert.KernelIdeal Cert.KernelIdeal.Gen

variable {F : FTy → Type} [FloatOps F]

section Global

variable (X : Vec F S1024x12800 .bf16) (W : Vec F S256x512 .bf16) (B : Vec F S8x512 .f32)

theorem inb_step (r n : ℕ) (hr : r ≤ 512) : ∀ a, (![r, 64 * (n % 200)] : Fin 2 → Nat) a + S512x64.size a ≤ S1024x12800.size a := by
  intro a
  have : n % 200 < 200 := Nat.mod_lt _ (by decide)
  fin_cases a <;> simp <;> omega

/-- The input of time step `n` for the 512 batch rows from `r`. -/
def stepIn (r : ℕ) (hr : r ≤ 512) (n : ℕ) : Vec F S512x64 .bf16 :=
  View.ld X (Rect.unit (s := S1024x12800) ![r, 64 * (n % 200)] S512x64.size (inb_step r n hr))

/-- The carried pair after `n` time steps, from the zero pair. -/
def states (n : ℕ) : Carry F :=
  walk (k0_pay5 W) (k0_pay6 (View.ld B (Rect.unit (s := S8x512) ![0, 0] S1x512.size inb_S8x512_S1x512_0_0)))
    (stepIn X 0 (by decide)) (stepIn X 512 (by decide)) ⟨k0_pay3, k0_pay4⟩ n

theorem states_zero : states X W B 0 = ⟨k0_pay3, k0_pay4⟩ := rfl

theorem states_succ (n : ℕ) : states X W B (n + 1)
    = stepC (k0_pay5 W) (k0_pay6 (View.ld B (Rect.unit (s := S8x512) ![0, 0] S1x512.size inb_S8x512_S1x512_0_0)))
        (stepIn X 0 (by decide) n) (stepIn X 512 (by decide) n) (states X W B n) := by
  simp only [states, walk]

/-- The result array: at column `64 n + k` the hidden state after step `n`. -/
def outArr : Vec F S1024x12800 .bf16 := fun i =>
  if h : (i 0 : ℕ) < 512 then lo (states X W B ((i 1 : ℕ) / 64 + 1)).h (ix2 ⟨i 0, h⟩ ⟨(i 1 : ℕ) % 64, Nat.mod_lt _ (by decide)⟩)
  else hi (states X W B ((i 1 : ℕ) / 64 + 1)).h
    (ix2 ⟨(i 0 : ℕ) - 512, by have : (i 0 : ℕ) < 1024 := (i 0).isLt; omega⟩ ⟨(i 1 : ℕ) % 64, Nat.mod_lt _ (by decide)⟩)

theorem outArr_lo (i : S1024x12800.Idx) (n : ℕ) (x : S512x64.Idx) (h0 : (i 0 : ℕ) = (x 0 : ℕ)) (h1 : (i 1 : ℕ) = 64 * n + (x 1 : ℕ)) :
    outArr X W B i = lo (states X W B (n + 1)).h x := by
  have hx0 : (x 0 : ℕ) < 512 := (x 0).isLt
  have hx1 : (x 1 : ℕ) < 64 := (x 1).isLt
  have hn : (i 1 : ℕ) / 64 = n := by omega
  unfold outArr
  rw [dif_pos (by omega), hn]
  congr 1
  funext a
  apply Fin.ext
  match a with
  | ⟨0, _⟩ => exact h0
  | ⟨1, _⟩ => show (i 1 : ℕ) % 64 = (x 1 : ℕ); omega

theorem outArr_hi (i : S1024x12800.Idx) (n : ℕ) (x : S512x64.Idx) (h0 : (i 0 : ℕ) = 512 + (x 0 : ℕ)) (h1 : (i 1 : ℕ) = 64 * n + (x 1 : ℕ)) :
    outArr X W B i = hi (states X W B (n + 1)).h x := by
  have hx1 : (x 1 : ℕ) < 64 := (x 1).isLt
  have hn : (i 1 : ℕ) / 64 = n := by omega
  unfold outArr
  rw [dif_neg (by omega), hn]
  congr 1
  funext a
  apply Fin.ext
  match a with
  | ⟨0, _⟩ => show (i 0 : ℕ) - 512 = (x 0 : ℕ); omega
  | ⟨1, _⟩ => show (i 1 : ℕ) % 64 = (x 1 : ℕ); omega

attribute [irreducible] states

/-- One point's steps continue the walk over the whole array. -/
theorem blockWalk_eq (x0 : Vec F S1024x1280 .bf16) (t : ℕ) (p : Carry F) (hp : p = states X W B (20 * t))
    (hx : ∀ (r : ℕ) (hr : r ≤ 512) (s : ℕ), s < 20 → View.ld x0 (tile r hr s) = stepIn X r hr (20 * t + s)) (s : ℕ) (hs : s ≤ 20) :
    blockWalk x0 W B p s = states X W B (20 * t + s) := by
  induction s with
  | zero => rw [Nat.add_zero, ← hp]; unfold blockWalk; rfl
  | succ s ih => rw [blockWalk_succ, ih (by omega), hx 0 _ s (by omega), hx 512 _ s (by omega), ← Nat.add_assoc, states_succ]

end Global

variable (m : (ℓ : Loc nD τ sig) → Buf (Elt F) ℓ)

/-- The three arrays the pipeline reads, as the region finds them. -/
abbrev arrX (c : Dev nD) : Vec F S1024x12800 .bf16 := V m c main_v45
abbrev arrW (c : Dev nD) : Vec F S256x512 .bf16 := V m c main_v36
abbrev arrB (c : Dev nD) : Vec F S8x512 .f32 := V m c main_v43

theorem index_facts : ∀ t : Fin grid0.N, win0_0.index t 0 = 0 ∧ win0_0.index t 1 = t.val ∧ win0_3.index t 0 = 0 ∧ win0_3.index t 1 = t.val
    ∧ win0_1.index t 0 = 0 ∧ win0_1.index t 1 = 0 ∧ win0_2.index t 0 = 0 ∧ win0_2.index t 1 = 0 := by
  decide +kernel

theorem lt_ten (t : Fin cfg0.N) : t.val < 10 := lt_of_lt_of_eq t.isLt N_0

/-- The tiles of point `t`'s input block are the whole array's. -/
theorem ld_iblk0 (c : Dev nD) (t : Fin cfg0.N) (r : ℕ) (hr : r ≤ 512) (s : ℕ) (hs : s < 20) :
    View.ld (iblk m c 0 t : Vec F S1024x1280 .bf16) (tile r hr s) = stepIn (arrX m c) r hr (20 * t.val + s) := by
  have ht := lt_ten t
  obtain ⟨e0, e1, -⟩ := index_facts t
  funext j
  unfold stepIn iblk
  show ((cfg0.win 0).blk t).view.read (Elt F) (V m c (Pipeline.arrRef spec0 0)) _ = _
  rw [View.read_apply]
  show V m c main_v45 _ = V m c main_v45 _
  congr 1
  funext a
  apply Fin.ext
  match a with
  | ⟨0, _⟩ => show win0_0.index t 0 * 1024 + 1 * (r + 1 * (j 0).val) = r + 1 * (j 0).val; rw [e0]; omega
  | ⟨1, _⟩ =>
    show win0_0.index t 1 * 1280 + 1 * (64 * (s % 20) + 1 * (j 1).val) = 64 * ((20 * t.val + s) % 200) + 1 * (j 1).val
    rw [e1, Nat.mod_eq_of_lt hs, Nat.mod_eq_of_lt (show 20 * t.val + s < 200 by omega)]; omega

theorem iblk1 (c : Dev nD) (t : Fin cfg0.N) : (iblk m c 1 t : Vec F S256x512 .bf16) = arrW m c := by
  obtain ⟨-, -, -, -, e0, e1, -⟩ := index_facts t
  funext j
  unfold iblk
  rw [View.read_apply]
  show V m c main_v36 _ = V m c main_v36 _
  congr 1
  funext a
  apply Fin.ext
  match a with
  | ⟨0, _⟩ => show win0_1.index t 0 * 256 + 1 * (j 0).val = (j 0).val; rw [e0]; omega
  | ⟨1, _⟩ => show win0_1.index t 1 * 512 + 1 * (j 1).val = (j 1).val; rw [e1]; omega

theorem iblk2 (c : Dev nD) (t : Fin cfg0.N) : (iblk m c 2 t : Vec F S8x512 .f32) = arrB m c := by
  obtain ⟨-, -, -, -, -, -, e0, e1⟩ := index_facts t
  funext j
  unfold iblk
  rw [View.read_apply]
  show V m c main_v43 _ = V m c main_v43 _
  congr 1
  funext a
  apply Fin.ext
  match a with
  | ⟨0, _⟩ => show win0_2.index t 0 * 8 + 1 * (j 0).val = (j 0).val; rw [e0]; omega
  | ⟨1, _⟩ => show win0_2.index t 1 * 512 + 1 * (j 1).val = (j 1).val; rw [e1]; omega

variable [∀ e, Nonempty (Elt F e)]

/-- What the output tile and the two carried buffers hold after point `n`. -/
theorem outsAt_eq (c : Dev nD) : ∀ (n : ℕ) (h : n < cfg0.N), outsAt0 m c n h
    = (View.canon (blockStores (iblk m c 0 ⟨n, h⟩) (arrW m c) (arrB m c) (states (arrX m c) (arrW m c) (arrB m c) (20 * n)) 20),
        (states (arrX m c) (arrW m c) (arrB m c) (20 * (n + 1))).h, (states (arrX m c) (arrW m c) (arrB m c) (20 * (n + 1))).c)
  | 0, h => by
    rw [outsAt0_A m c ⟨0, h⟩ rfl, out_A, hidden_A, cell_A, iblk1, iblk2,
      blockWalk_eq (arrX m c) (arrW m c) (arrB m c) (iblk m c 0 ⟨0, h⟩) 0 _ (states_zero _ _ _).symm (ld_iblk0 m c ⟨0, h⟩) 20 le_rfl,
      states_zero]
  | n + 1, h => by
    have hN : cfg0.N = 10 := N_0
    have hB : ¬(⟨n + 1, h⟩ : Fin cfg0.N).val % 10 = 0 := by dsimp only; omega
    rw [outsAt0_B m c ⟨n + 1, h⟩ hB, out_B, hidden_B, cell_B, iblk1, iblk2]
    have ih := outsAt_eq c n (Nat.lt_of_succ_lt h)
    have e : (⟨(outsAt0 m c n (Nat.lt_of_succ_lt h)).2.1, (outsAt0 m c n (Nat.lt_of_succ_lt h)).2.2⟩ : Carry F)
        = states (arrX m c) (arrW m c) (arrB m c) (20 * (n + 1)) := by rw [ih]
    show (View.canon (blockStores _ _ _ ⟨(outsAt0 m c n _).2.1, (outsAt0 m c n _).2.2⟩ 20), (blockWalk _ _ _ ⟨(outsAt0 m c n _).2.1, (outsAt0 m c n _).2.2⟩ 20).h,
      (blockWalk _ _ _ ⟨(outsAt0 m c n _).2.1, (outsAt0 m c n _).2.2⟩ 20).c) = _
    rw [e, blockWalk_eq (arrX m c) (arrW m c) (arrB m c) (iblk m c 0 ⟨n + 1, h⟩) (n + 1) _ rfl (ld_iblk0 m c ⟨n + 1, h⟩) 20 le_rfl]
    rfl

/-- The result array of core `c`. -/
abbrev resArr (c : Dev nD) : Vec F S1024x12800 .bf16 := outArr (arrX m c) (arrW m c) (arrB m c)

/-- What point `t` leaves in the output tile, at an index: the hidden state after one of its steps. -/
theorem out_tile (c : Dev nD) (t : Fin cfg0.N) (y : S1024x1280.Idx) (i : S1024x12800.Idx) (h0 : (i 0 : ℕ) = (y 0 : ℕ))
    (h1 : (i 1 : ℕ) = 1280 * t.val + (y 1 : ℕ)) : (outsAt0 m c t.val t.isLt).1 y = resArr m c i := by
  have hy0 : (y 0 : ℕ) < 1024 := (y 0).isLt
  have hy1 : (y 1 : ℕ) < 1280 := (y 1).isLt
  have hs : (y 1 : ℕ) / 64 < 20 := by omega
  have hw := blockWalk_eq (arrX m c) (arrW m c) (arrB m c) (iblk m c 0 t) t.val _ rfl (ld_iblk0 m c t) ((y 1 : ℕ) / 64 + 1) hs
  have hcol : (y 1 : ℕ) % 64 < 64 := Nat.mod_lt _ (by decide)
  rw [outsAt_eq]
  dsimp only
  by_cases h : (y 0 : ℕ) < 512
  · have hy : y = (tile 0 (by decide) ((y 1 : ℕ) / 64)).emb (ix2 ⟨(y 0 : ℕ), h⟩ ⟨(y 1 : ℕ) % 64, hcol⟩ : S512x64.Idx) := by
      funext a
      apply Fin.ext
      match a with
      | ⟨0, _⟩ => refine Eq.trans ?_ (tile_row 0 _ _ _).symm; show (y 0 : ℕ) = 0 + (y 0 : ℕ); omega
      | ⟨1, _⟩ => refine Eq.trans ?_ (tile_col 0 _ _ hs _).symm; show (y 1 : ℕ) = 64 * ((y 1 : ℕ) / 64) + (y 1 : ℕ) % 64; omega
    rw [resArr, outArr_lo _ _ _ i (20 * t.val + (y 1 : ℕ) / 64) (ix2 ⟨(y 0 : ℕ), h⟩ ⟨(y 1 : ℕ) % 64, hcol⟩) h0
      (by show (i 1 : ℕ) = 64 * (20 * t.val + (y 1 : ℕ) / 64) + (y 1 : ℕ) % 64; omega), Nat.add_assoc, ← hw]
    refine Eq.trans (congrArg _ hy) ?_
    exact tile_lo _ _ _ _ _ _ 20 hs le_rfl
  · have hlt : (y 0 : ℕ) - 512 < 512 := by omega
    have hy : y = (tile 512 (by decide) ((y 1 : ℕ) / 64)).emb (ix2 ⟨(y 0 : ℕ) - 512, hlt⟩ ⟨(y 1 : ℕ) % 64, hcol⟩ : S512x64.Idx) := by
      funext a
      apply Fin.ext
      match a with
      | ⟨0, _⟩ => refine Eq.trans ?_ (tile_row 512 _ _ _).symm; show (y 0 : ℕ) = 512 + ((y 0 : ℕ) - 512); omega
      | ⟨1, _⟩ => refine Eq.trans ?_ (tile_col 512 _ _ hs _).symm; show (y 1 : ℕ) = 64 * ((y 1 : ℕ) / 64) + (y 1 : ℕ) % 64; omega
    rw [resArr, outArr_hi _ _ _ i (20 * t.val + (y 1 : ℕ) / 64) (ix2 ⟨(y 0 : ℕ) - 512, hlt⟩ ⟨(y 1 : ℕ) % 64, hcol⟩)
      (by show (i 0 : ℕ) = 512 + ((y 0 : ℕ) - 512); omega)
      (by show (i 1 : ℕ) = 64 * (20 * t.val + (y 1 : ℕ) / 64) + (y 1 : ℕ) % 64; omega), Nat.add_assoc, ← hw]
    refine Eq.trans (congrArg _ hy) ?_
    exact tile_hi _ _ _ _ _ _ 20 hs le_rfl

theorem flushed_eq (c : Dev nD) (t : Fin cfg0.N) :
    (dats m 0 c).flushed 3 t = ((cfg0.win 3).blk t).view.read (Elt F) (resArr m c) := by
  obtain ⟨-, -, e0, e1, -⟩ := index_facts t
  show (cfg0.win 3).cut (grid0.coords t) ((dats m 0 c).after 3 t) = _
  rw [after0_3]
  funext y
  rw [View.read_apply]
  refine out_tile m c t y _ ?_ ?_
  · show win0_3.index t 0 * 1024 + 1 * (y 0).val = (y 0).val; rw [e0]; omega
  · show win0_3.index t 1 * 1280 + 1 * (y 1).val = 1280 * t.val + (y 1).val; rw [e1]; omega

/-- Point `t`'s block of the result array is the columns from `1280 t`. -/
theorem mem_point (t : Fin cfg0.N) (i : S1024x12800.Idx) (h0 : 1280 * t.val ≤ (i 1 : ℕ)) (h1 : (i 1 : ℕ) < 1280 * t.val + 1280) :
    i ∈ ((cfg0.win 3).blk t).view.set := by
  have hi0 : (i 0 : ℕ) < 1024 := (i 0).isLt
  obtain ⟨-, -, e0, e1, -⟩ := index_facts t
  show i ∈ ((View.whole main_v46).slice (win0_3.rect t)).set
  rw [View.set_slice_whole, Rect.mem_set_unit]
  intro a
  match a with
  | ⟨0, _⟩ =>
    show win0_3.index t 0 * 1024 ≤ (i 0 : ℕ) ∧ (i 0 : ℕ) < win0_3.index t 0 * 1024 + 1024
    rw [e0]; omega
  | ⟨1, _⟩ =>
    show win0_3.index t 1 * 1280 ≤ (i 1 : ℕ) ∧ (i 1 : ℕ) < win0_3.index t 1 * 1280 + 1280
    rw [e1]; omega

/-- Every index of the result array is in the block of one point. -/
theorem covered (i : S1024x12800.Idx) : ∃ t : Fin cfg0.N, (cfg0.win 3).flush t = true ∧ i ∈ ((cfg0.win 3).blk t).view.set := by
  have hi1 : (i 1 : ℕ) < 12800 := (i 1).isLt
  have hN : cfg0.N = 10 := N_0
  exact ⟨⟨(i 1 : ℕ) / 1280, by omega⟩, flush0_3 _, mem_point _ _ (by dsimp only; omega) (by dsimp only; omega)⟩

/-- The result array after the last point. -/
theorem final_arr (c : Dev nD) : (dats m 0 c).arrAt 3 cfg0.N = resArr m c :=
  (dats m 0 c).arrAt_eq_of_cover 3 (resArr m c) (fun t _ => flushed_eq m c t) covered

end Cert.Lstm
-- ==== Proof.Diagonal.lean ====
/-
The two-block weight matrix.

The host places a matrix `w` of shape (64, 4, 64) twice into a zero array of shape (128, 4, 2, 64): once at rows
below 64 and half 0, once at rows from 64 and half 1. An element is that of `w` where its row's half is its own half,
and zero elsewhere.
-/
module

public import proofs.«01_k».proof.Proof.Gen.KernelIdeal
public import Idealize.ShloMosaic.Lib.Pointwise
public import Idealize.ShloMosaic.Lib.Routing.OpsPair
public import Idealize.ShloMosaic.Lib.Routing.OpsSet

@[expose] public section

set_option maxRecDepth 16384

noncomputable section

namespace Cert.Lstm

open Idealize.ShloMosaic
open Cert.KernelIdeal Cert.KernelIdeal.Gen

/-- How the host places one block. -/
abbrev place : ScatterDims S128x4x2x64 S2 S64x4x64 := scatter_S128x4x2x64_S2_S64x4x64_012_2_02_0

variable {α : Type} (x : S128x4x2x64.Idx → α) (idx : IVec S2 32) (w : S64x4x64.Idx → α)

theorem start_row (j : S64x4x64.Idx) : place.start j idx 0 = (idx (ix1 0)).toInt := by
  show (idx (place.siIdx j ⟨0, by decide⟩)).toInt = _
  congr 2
  funext b
  match b with
  | ⟨0, _⟩ => rfl

theorem start_half (j : S64x4x64.Idx) : place.start j idx 2 = (idx (ix1 1)).toInt := by
  show (idx (place.siIdx j ⟨1, by decide⟩)).toInt = _
  congr 2
  funext b
  match b with
  | ⟨0, _⟩ => rfl

/-- Element `j` of the block goes to row `start row + j 0` and half `start half`, its other coordinates kept. -/
theorem place_lands (j : S64x4x64.Idx) (i : S128x4x2x64.Idx) : place.resultIdx? j idx = some i
    ↔ (idx (ix1 0)).toInt + ((j 0 : ℕ) : Int) = ((i 0 : ℕ) : Int) ∧ (j 1 : ℕ) = (i 1 : ℕ) ∧ (idx (ix1 1)).toInt = ((i 2 : ℕ) : Int) ∧ (j 2 : ℕ) = (i 3 : ℕ) := by
  have s0 : place.start j idx 0 = (idx (ix1 0)).toInt := start_row idx j
  have s1 : place.start j idx 1 = 0 := by rfl
  have s2 : place.start j idx 2 = (idx (ix1 1)).toInt := start_half idx j
  have s3 : place.start j idx 3 = 0 := by rfl
  have w0 : place.window j 0 = (j 0 : ℕ) := by rfl
  have w1 : place.window j 1 = (j 1 : ℕ) := by rfl
  have w2 : place.window j 2 = 0 := by rfl
  have w3 : place.window j 3 = (j 2 : ℕ) := by rfl
  rw [Routing.resultIdx?_eq_some]
  constructor
  · intro h
    have h0 := h 0
    have h1 := h 1
    have h2 := h 2
    have h3 := h 3
    rw [s0, w0] at h0
    rw [s1, w1] at h1
    rw [s2, w2] at h2
    rw [s3, w3] at h3
    exact ⟨h0, by omega, by omega, by omega⟩
  · rintro ⟨h0, h1, h2, h3⟩ a
    match a with
    | ⟨0, _⟩ => exact (congrArg₂ (fun (p : Int) (q : ℕ) => p + (q : Int)) s0 w0).trans h0
    | ⟨1, _⟩ => exact (congrArg₂ (fun (p : Int) (q : ℕ) => p + (q : Int)) s1 w1).trans (by show (0 : Int) + ((j 1 : ℕ) : Int) = ((i 1 : ℕ) : Int); omega)
    | ⟨2, _⟩ => exact (congrArg₂ (fun (p : Int) (q : ℕ) => p + (q : Int)) s2 w2).trans (by show (idx (ix1 1)).toInt + ((0 : ℕ) : Int) = ((i 2 : ℕ) : Int); omega)
    | ⟨3, _⟩ => exact (congrArg₂ (fun (p : Int) (q : ℕ) => p + (q : Int)) s3 w3).trans (by show (0 : Int) + ((j 2 : ℕ) : Int) = ((i 3 : ℕ) : Int); omega)

/-- One placing at half `p`, read at an element. -/
theorem place_apply (p : ℕ) (h0 : (idx (ix1 0)).toInt = ((64 * p : ℕ) : Int)) (h1 : (idx (ix1 1)).toInt = (p : Int))
    (a : Fin 128) (q : Fin 4) (v : Fin 2) (k : Fin 64) :
    Host.scatter place (fun _ b => b) x idx w (ix4 a q v k)
      = if (a : ℕ) / 64 = p ∧ (v : ℕ) = p then w (ix3 ⟨(a : ℕ) % 64, Nat.mod_lt _ (by decide)⟩ q k) else x (ix4 a q v k) := by
  split
  · next h =>
    refine Routing.scatter_set_hit place x idx w _ _ (fun j hj => ?_) (ix3 ⟨(a : ℕ) % 64, Nat.mod_lt _ (by decide)⟩ q k) ?_
    · obtain ⟨e0, e1, e2, e3⟩ := (place_lands idx j _).1 hj
      rw [h0] at e0
      have e0' : ((64 * p : ℕ) : Int) + ((j 0 : ℕ) : Int) = ((a : ℕ) : Int) := e0
      congr 1
      rw [eq_ix3 j]
      congr 1
      · apply Fin.ext; show (j 0 : ℕ) = (a : ℕ) % 64; omega
      · exact Fin.ext e1
      · exact Fin.ext e3
    · rw [place_lands, h0, h1]
      refine ⟨?_, rfl, ?_, rfl⟩
      · show ((64 * p : ℕ) : Int) + (((a : ℕ) % 64 : ℕ) : Int) = ((a : ℕ) : Int); omega
      · show (p : Int) = ((v : ℕ) : Int); omega
  · next h =>
    refine Routing.scatter_set_miss place x idx w _ (fun j hj => h ?_)
    obtain ⟨e0, e1, e2, e3⟩ := (place_lands idx j _).1 hj
    rw [h0] at e0
    rw [h1] at e2
    have e0' : ((64 * p : ℕ) : Int) + ((j 0 : ℕ) : Int) = ((a : ℕ) : Int) := e0
    have e2' : (p : Int) = ((v : ℕ) : Int) := e2
    have hj0 : (j 0 : ℕ) < 64 := (j 0).isLt
    omega

/-- Both placings: the block where the row's half is the column's half, the operand elsewhere. -/
theorem place_twice (idx' : IVec S2 32) (h0 : (idx (ix1 0)).toInt = 0) (h1 : (idx (ix1 1)).toInt = 0) (h0' : (idx' (ix1 0)).toInt = 64) (h1' : (idx' (ix1 1)).toInt = 1)
    (a : Fin 128) (q : Fin 4) (v : Fin 2) (k : Fin 64) :
    Host.scatter place (fun _ b => b) (Host.scatter place (fun _ b => b) x idx w) idx' w (ix4 a q v k)
      = if (a : ℕ) / 64 = (v : ℕ) then w (ix3 ⟨(a : ℕ) % 64, Nat.mod_lt _ (by decide)⟩ q k) else x (ix4 a q v k) := by
  rw [place_apply _ idx' w 1 h0' h1', place_apply x idx w 0 h0 h1]
  have hv : (v : ℕ) < 2 := v.isLt
  by_cases e : (a : ℕ) / 64 = (v : ℕ)
  · rw [if_pos e]
    by_cases e1 : (v : ℕ) = 1
    · rw [if_pos ⟨by omega, e1⟩]
    · rw [if_neg (fun h => e1 h.2), if_pos ⟨by omega, by omega⟩]
  · rw [if_neg e, if_neg (by omega), if_neg (by omega)]

end Cert.Lstm
-- ==== Proof.Scalar.lean ====
/-
Two facts about extended reals.

The logistic function is an affine image of the hyperbolic tangent of half the argument, at the infinities too; and a
nonnegative finite factor comes out of a sum whatever its terms.
-/
module

public import Idealize.ShloMosaic.Lib.Pointwise

@[expose] public section

noncomputable section

namespace Cert.Lstm

open Idealize.ShloMosaic

/-- One half, as the kernel's constant reads. -/
theorem half_bits : Ideal.ofBits .f32 0x3F000000#32 = ((1 / 2 : ℝ) : EReal) := by
  simp [Ideal.ofBits, Ideal.ieee, -EReal.coe_mul]
  norm_num

theorem logistic_real (r : ℝ) : Real.tanh (r * (1 / 2)) * (1 / 2) + 1 / 2 = (1 + Real.exp (-r))⁻¹ := by
  have h : Real.exp (-r) = Real.exp (-(r * (1 / 2))) * Real.exp (-(r * (1 / 2))) := by rw [← Real.exp_add]; congr 1; ring
  have he : Real.exp (r * (1 / 2)) * Real.exp (-(r * (1 / 2))) = 1 := by rw [← Real.exp_add]; simp
  have p : 0 < Real.exp (r * (1 / 2)) := Real.exp_pos _
  have q : 0 < Real.exp (-(r * (1 / 2))) := Real.exp_pos _
  rw [Real.tanh_eq_sinh_div_cosh, Real.sinh_eq, Real.cosh_eq, h]
  generalize Real.exp (r * (1 / 2)) = a at *
  generalize Real.exp (-(r * (1 / 2))) = b at *
  have h1 : a + b ≠ 0 := by positivity
  have h2 : 1 + b * b ≠ 0 := by positivity
  field_simp
  nlinarith

/-- The logistic function from the hyperbolic tangent of half the argument. -/
theorem logistic_half (z : EReal) : Ideal.tanh (z * ((1 / 2 : ℝ) : EReal)) * ((1 / 2 : ℝ) : EReal) + ((1 / 2 : ℝ) : EReal)
    = Ideal.logistic z := by
  induction z with
  | bot =>
    rw [EReal.bot_mul_coe_of_pos (by norm_num), Ideal.tanh_bot, Ideal.logistic_bot, ← EReal.coe_one, ← EReal.coe_neg, ← EReal.coe_mul, ← EReal.coe_add, ← EReal.coe_zero]
    congr 1
    norm_num
  | top =>
    rw [EReal.top_mul_coe_of_pos (by norm_num), Ideal.tanh_top, Ideal.logistic_top, ← EReal.coe_one, ← EReal.coe_mul, ← EReal.coe_add]
    congr 1
    norm_num
  | coe r =>
    rw [← EReal.coe_mul, Ideal.tanh_coe, ← EReal.coe_mul, ← EReal.coe_add, logistic_real]
    rw [Ideal.logistic_coe]

theorem sum_mul_right {ι : Type} (s : Finset ι) (f : ι → EReal) {a : EReal} (h0 : 0 ≤ a) (h1 : a ≠ ⊤) : ∑ i ∈ s, f i * a = (∑ i ∈ s, f i) * a := by
  classical
  induction s using Finset.induction_on with
  | empty => simp
  | insert i s hi ih => rw [Finset.sum_insert hi, Finset.sum_insert hi, ih, EReal.right_distrib_of_nonneg_of_ne_top h0 h1]

end Cert.Lstm
-- ==== Proof.Model.lean ====
/-
The recurrence on extended reals, for one row of the batch.

Both programs are shown to compute this: a long short-term memory cell run over the time steps from the zero state. The
rows of the two weight matrices and of the two biases hold the four gates one after another, 64 units each, in the
order input, forget, candidate, output.
-/
module

public import Idealize.ShloMosaic.Lib.Pointwise

@[expose] public section

noncomputable section

namespace Cert.Lstm

open Idealize.ShloMosaic

/-- Row `64 g + k` of a weight matrix: unit `k` of gate `g`. -/
def row (g : Fin 4) (k : Fin 64) : Fin 256 := ⟨64 * (g : ℕ) + (k : ℕ), by omega⟩

/-- The weights on the input, the weights on the hidden state and the two biases. -/
structure Params where
  wi : Fin 256 → Fin 64 → EReal
  wh : Fin 256 → Fin 64 → EReal
  bi : Fin 256 → EReal
  bh : Fin 256 → EReal

variable (P : Params)

/-- A gate before its nonlinearity. -/
def pre (x h : Fin 64 → EReal) (q : Fin 256) : EReal := (∑ d, x d * P.wi q d) + (∑ d, h d * P.wh q d) + P.bi q + P.bh q

/-- The next cell state. -/
def cell (x h c : Fin 64 → EReal) (k : Fin 64) : EReal :=
  Ideal.logistic (pre P x h (row 1 k)) * c k + Ideal.logistic (pre P x h (row 0 k)) * Ideal.tanh (pre P x h (row 2 k))

/-- The next hidden state. -/
def hidden (x h c : Fin 64 → EReal) (k : Fin 64) : EReal := Ideal.logistic (pre P x h (row 3 k)) * Ideal.tanh (cell P x h c k)

/-- The hidden and the cell state after `n` steps over the inputs `x 0, x 1, …`. -/
def lstm (x : ℕ → Fin 64 → EReal) : ℕ → (Fin 64 → EReal) × (Fin 64 → EReal)
  | 0 => (fun _ => 0, fun _ => 0)
  | n + 1 => (hidden P (x n) (lstm x n).1 (lstm x n).2, cell P (x n) (lstm x n).1 (lstm x n).2)

end Cert.Lstm
-- ==== Proof.Operands.lean ====
/-
The three arrays that the kernel reads, element by element.

The host lays the input out as one row per batch row, the time steps one after another; scales the weights and the
biases by one half except for the third gate; and places each weight matrix twice, once for each half of the batch.
-/
module

public import proofs.«01_k».proof.Proof.Array
public import proofs.«01_k».proof.Proof.Diagonal
public import proofs.«01_k».proof.Proof.Scalar
public import proofs.«01_k».proof.Proof.Model
public import Idealize.ShloMosaic.Lib.StableHlo.RunRead
public import Idealize.ShloMosaic.Lib.StableHlo.ReadAt

@[expose] public section

set_option maxRecDepth 16384

noncomputable section

namespace Cert.Lstm

open Idealize.ShloMosaic Idealize.ShloMosaic.TcCoe
open Cert.KernelIdeal Cert.KernelIdeal.Gen
open Idealize.ShloMosaic.Tactic

section Forms

variable {F : FTy → Type} [FloatOps F]

/-- Three vectors, one after another. -/
def joined (x : FVec F S128 .f32) (y z : FVec F S64 .f32) : FVec F S256 .f32 :=
  concatenate S256 0 [⟨S128, x⟩, ⟨S64, y⟩, ⟨S64, z⟩] concatenates_S128_S64_S64_S256_d0

/-- Two numbers as a pair. -/
def paired (x y : IVec S1 32) : IVec S2 32 := concatenate S2 0 [⟨S1, x⟩, ⟨S1, y⟩] concatenates_S1_S1_S2_d0

/-- Two weight matrices, one above the other. -/
def stacked (x y : FVec F S128x512 .bf16) : FVec F S256x512 .bf16 :=
  concatenate S256x512 0 [⟨S128x512, x⟩, ⟨S128x512, y⟩] concatenates_S128x512_S128x512_S256x512_d0

theorem joined_def (x : FVec F S128 .f32) (y z : FVec F S64 .f32) :
    concatenate S256 0 [⟨S128, x⟩, ⟨S64, y⟩, ⟨S64, z⟩] concatenates_S128_S64_S64_S256_d0 = joined x y z := rfl
theorem paired_def (x y : IVec S1 32) : concatenate S2 0 [⟨S1, x⟩, ⟨S1, y⟩] concatenates_S1_S1_S2_d0 = paired x y := rfl
theorem stacked_def (x y : FVec F S128x512 .bf16) :
    concatenate S256x512 0 [⟨S128x512, x⟩, ⟨S128x512, y⟩] concatenates_S128x512_S128x512_S256x512_d0 = stacked x y := rfl

/-- The factor of each gate row: one half, and one for the third gate. -/
def factors : FVec F S256 .f32 :=
  joined (broadcastInDim S128 ![] bcast_S_S128 (constant S_ .f32 0x3F000000#32)) (broadcastInDim S64 ![] bcast_S_S64 (constant S_ .f32 0x3F800000#32))
    (broadcastInDim S64 ![] bcast_S_S64 (constant S_ .f32 0x3F000000#32))

/-- A weight matrix transposed, scaled, its gates as an axis. -/
def gateBlocks (w : FVec F S256x64 .f32) : FVec F S64x4x64 .f32 :=
  shapeCast S64x4x64 (mulf (transpose S64x256 [1, 0] w transposes_S256x64_S64x256_1_0)
    (broadcastInDim S64x256 ![0, 1] bcast_S1x256_S64x256_0_1 (broadcastInDim S1x256 ![1] bcast_S256_S1x256_1 factors))) shapeCasts_S64x256_S64x4x64

/-- Where a block starts: its row and its half. -/
def corner (r v : BitVec 32) : IVec S2 32 :=
  paired (broadcastInDim S1 ![] bcast_S_S1 (constantI S_ 32 r)) (broadcastInDim S1 ![] bcast_S_S1 (constantI S_ 32 v))

/-- The matrix placed twice. -/
def twoBlocks (w : FVec F S256x64 .f32) : FVec F S128x512 .bf16 :=
  truncf .bf16 (shapeCast S128x512 (Host.scatter place (fun _ b => b) (Host.scatter place (fun _ b => b)
    (broadcastInDim S128x4x2x64 ![] bcast_S_S128x4x2x64 (constant S_ .f32 0x00000000#32) : FVec F S128x4x2x64 .f32)
    (corner 0#32 0#32) (gateBlocks w)) (corner 64#32 1#32) (gateBlocks w)) shapeCasts_S128x4x2x64_S128x512) bitsLt_bf16_f32

/-- The two biases added, scaled, each gate's lanes twice over. -/
def biasLine (bi bh : FVec F S256 .f32) : FVec F S8x512 .f32 :=
  broadcastInDim S8x512 ![0, 1] bcast_S1x512_S8x512_0_1 (broadcastInDim S1x512 ![1] bcast_S512_S1x512_1
    (shapeCast S512 (concatenate S4x128 1 [⟨S4x64, shapeCast S4x64 (mulf (addf bi bh) factors) shapeCasts_S256_S4x64⟩,
      ⟨S4x64, shapeCast S4x64 (mulf (addf bi bh) factors) shapeCasts_S256_S4x64⟩] concatenates_S4x64_S4x64_S4x128_d1) shapeCasts_S4x128_S512))

variable (m : (ℓ : Loc nD τ sig) → Buf (Elt F) ℓ) (c : Dev nD)

theorem arrX_eq : arrX m c = truncf .bf16 (shapeCast S1024x12800 (m ((c.tc : Thread nD τ).loc main_arg0)) shapeCasts_S1024x200x64_S1024x12800 : FVec F S1024x12800 .f32) bitsLt_bf16_f32 := by
  show StableHlo.after hostOps0 (fun b => m (c, b)) (Proc.devRef .tc main_v45) = _
  after_reads_simp
  rfl

set_option maxRecDepth 65536 in
set_option maxHeartbeats 1000000 in
theorem arrW_eq : arrW m c = stacked (twoBlocks (m ((c.tc : Thread nD τ).loc main_arg1))) (twoBlocks (m ((c.tc : Thread nD τ).loc main_arg2))) := by
  show StableHlo.after hostOps0 (fun b => m (c, b)) (Proc.devRef .tc main_v36) = _
  after_reads_simp
  simp only [stacked_def]
  after_reads_simp
  simp only [paired_def]
  after_reads_simp
  dsimp only [Matrix.cons_val_zero, Matrix.cons_val_one, Matrix.cons_val]
  simp only [joined_def]
  after_reads_simp
  unfold twoBlocks gateBlocks corner factors
  sl_kernel_rfl

theorem arrB_eq : arrB m c = biasLine (m ((c.tc : Thread nD τ).loc main_arg3)) (m ((c.tc : Thread nD τ).loc main_arg4)) := by
  show StableHlo.after hostOps0 (fun b => m (c, b)) (Proc.devRef .tc main_v43) = _
  after_reads_simp
  rfl

end Forms

/-- The factor of gate `g`. -/
def factor (g : Fin 4) : EReal := if (g : ℕ) = 2 then 1 else ((1 / 2 : ℝ) : EReal)

theorem factors_apply (g : Fin 4) (k : Fin 64) : (factors : FVec Ideal S256 .f32) (ix1 (row g k)) = factor g := by
  have hk : (k : ℕ) < 64 := k.isLt
  unfold factor row
  pointwise [factors, joined]
  simp only [half_bits]
  fin_vals g with hg
  all_goals simp only [hg]
  · rw [dif_pos (by omega), if_neg (by decide)]
  · rw [dif_pos (by omega), if_neg (by decide)]
  · rw [dif_neg (by omega), dif_pos (by omega), if_pos trivial]
  · rw [dif_neg (by omega), dif_neg (by omega), if_neg (by decide)]

theorem gateBlocks_apply (w : FVec Ideal S256x64 .f32) (d : Fin 64) (g : Fin 4) (k : Fin 64) : gateBlocks w (ix3 d g k) = w (ix2 (row g k) d) * factor g := by
  rw [← factors_apply g k]
  unfold row
  pointwise [gateBlocks]
  simp only [Nat.mul_comm]

/-- Column `128 g + 64 v + k` of the gates: unit `k` of gate `g` for half `v` of the batch. -/
def column (g : Fin 4) (v : Fin 2) (k : Fin 64) : Fin 512 := ⟨128 * (g : ℕ) + 64 * (v : ℕ) + (k : ℕ), by omega⟩

theorem twoBlocks_apply (w : FVec Ideal S256x64 .f32) (a : Fin 128) (g : Fin 4) (v : Fin 2) (k : Fin 64) :
    twoBlocks w (ix2 a (column g v k)) = if (a : ℕ) / 64 = (v : ℕ) then w (ix2 (row g k) ⟨(a : ℕ) % 64, Nat.mod_lt _ (by decide)⟩) * factor g else 0 := by
  rw [← gateBlocks_apply]
  unfold column
  pointwise [twoBlocks]
  rw [place_twice]
  · pointwise
  · rfl
  · rfl
  · rfl
  · rfl

variable (m : (ℓ : Loc nD τ sig) → Buf (Elt Ideal) ℓ) (c : Dev nD)

theorem arrX_apply (b : Fin 1024) (t : Fin 200) (d : Fin 64) :
    arrX m c (ix2 b ⟨64 * (t : ℕ) + (d : ℕ), by omega⟩) = m ((c.tc : Thread nD τ).loc main_arg0) (ix3 b t d) := by
  rw [arrX_eq]
  pointwise

/-- The sum of the two biases at unit `k` of gate `g`. -/
theorem biasLine_apply (bi bh : FVec Ideal S256 .f32) (g : Fin 4) (v : Fin 2) (k : Fin 64) :
    biasLine bi bh (ix2 0 (column g v k)) = (bi (ix1 (row g k)) + bh (ix1 (row g k))) * factor g := by
  rw [← factors_apply g k]
  unfold column row
  pointwise [biasLine]
  have hk := k.isLt
  fin_vals v with hv
  all_goals simp only [hv]
  · have e : (g : ℕ) * 64 + (128 * (g : ℕ) + 64 * 0 + (k : ℕ)) % 128 = 64 * (g : ℕ) + (k : ℕ) := by omega
    rw [dif_pos (by omega)]
    simp only [e]
  · have e : (g : ℕ) * 64 + ((128 * (g : ℕ) + 64 * 1 + (k : ℕ)) % 128 - 64) = 64 * (g : ℕ) + (k : ℕ) := by omega
    rw [dif_neg (by omega)]
    simp only [e]

/-- The upper half of the weight array comes from the weights on the input. -/
theorem arrW_top (a : Fin 128) (j : Fin 512) : arrW m c (ix2 ⟨(a : ℕ), by omega⟩ j) = twoBlocks (F := Ideal) (m ((c.tc : Thread nD τ).loc main_arg1)) (ix2 a j) := by
  rw [arrW_eq]
  pointwise [stacked]

/-- The lower half comes from the weights on the hidden state. -/
theorem arrW_bottom (a : Fin 128) (j : Fin 512) : arrW m c (ix2 ⟨128 + (a : ℕ), by omega⟩ j) = twoBlocks (F := Ideal) (m ((c.tc : Thread nD τ).loc main_arg2)) (ix2 a j) := by
  rw [arrW_eq]
  pointwise [stacked]

end Cert.Lstm
-- ==== Proof.KernelRun.lean ====
/-
The kernel's program run: its result is the pipeline's result array, split into time steps, and the arguments stay.
-/
module

public import proofs.«01_k».proof.Proof.Array
public import Idealize.ShloMosaic.Lib.StableHlo.RunRead

@[expose] public section

set_option maxRecDepth 16384

noncomputable section

namespace Cert.Lstm

open Idealize.ShloMosaic Idealize.ShloMosaic.TcCoe Idealize.SL.Sem
open Cert.KernelIdeal Cert.KernelIdeal.Gen

variable {F : FTy → Type} [FloatOps F] (m : (ℓ : Loc nD τ sig) → Buf (Elt F) ℓ) (ρ : Dev nD → PrngReg) [∀ e, Nonempty (Elt F e)]

/-- The result of core `c`: the pipeline's result array with the time steps as an axis of their own, widened. -/
def kernelOut (c : Dev nD) : Vec F S1024x200x64 .f32 :=
  extf .f32 (shapeCast S1024x200x64 (resArr m c) shapeCasts_S1024x12800_S1024x200x64) bitsLt_bf16_f32

/-- What the two lines after the pipeline leave in the result. -/
theorem tail_out (c : Dev nD) : Pipeline.afterTail₀ cfgs (dats m) 0 (V0 m) [hostOps1] c main_v48 = kernelOut m c := by
  unfold Pipeline.afterTail₀
  have e : Pipeline.withArrays (cfgs 0).spec c (V0 m c) (fun w => (dats m 0 c).arrAt w (cfgs 0).N) (Proc.devRef .tc main_v46) = resArr m c := by
    refine Eq.trans (Pipeline.withArrays_arr (cfgs 0).spec (by decide) c (V0 m c) _ 3) ?_
    exact final_arr m c
  show StableHlo.after hostOps1 _ (Proc.devRef .tc main_v48) = _
  after_results_simp
  unfold kernelOut
  rw [← e]
  rfl

/-- The run: the result as above, the arguments unchanged. -/
theorem kernel_run : θ_run defs (onTc (τ := τ) (main (F := F))) ⟨m, fun _ => 0, ρ⟩ (fun r => ∀ c : Dev nD,
      r.2.mem ((c.tc : Thread nD τ).loc main_v48) = kernelOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_, h.1 c⟩) (θ_run_and (unchanged m ρ) (run_main m ρ))
  exact ((h.2 c).2 main_v48 (Pipeline.mem_restRefs_of main_v48 (by decide) (by decide))).trans (tail_out m c)

end Cert.Lstm
-- ==== Proof.Step.lean ====
/-
One time step of the kernel at an index, and the carried pair after any number of steps.
-/
module

public import proofs.«01_k».proof.Proof.Operands
public import proofs.«01_k».proof.Proof.KernelRun

@[expose] public section

set_option maxRecDepth 16384

noncomputable section

namespace Cert.Lstm

open Idealize.ShloMosaic Idealize.ShloMosaic.TcCoe
open Cert.KernelIdeal Cert.KernelIdeal.Gen

/-- Lane `64 v + k` of the carried pair: unit `k` for half `v` of the batch. -/
def lane (v : Fin 2) (k : Fin 64) : Fin 128 := ⟨64 * (v : ℕ) + (k : ℕ), by omega⟩

/-- The input tile of a half of the batch. -/
def half (xa xb : Vec Ideal S512x64 .bf16) (v : Fin 2) : Vec Ideal S512x64 .bf16 := if (v : ℕ) = 0 then xa else xb

variable (P : Params) (W : FVec Ideal S256x512 .bf16) (b : FVec Ideal S1x512 .f32)

/-- The weights as the kernel holds them: each placed twice, scaled. -/
structure Holds : Prop where
  top : ∀ (a : Fin 128) (g : Fin 4) (v : Fin 2) (k : Fin 64), W (ix2 ⟨(a : ℕ), by omega⟩ (column g v k))
    = if (a : ℕ) / 64 = (v : ℕ) then P.wi (row g k) ⟨(a : ℕ) % 64, Nat.mod_lt _ (by decide)⟩ * factor g else 0
  bottom : ∀ (a : Fin 128) (g : Fin 4) (v : Fin 2) (k : Fin 64), W (ix2 ⟨128 + (a : ℕ), by omega⟩ (column g v k))
    = if (a : ℕ) / 64 = (v : ℕ) then P.wh (row g k) ⟨(a : ℕ) % 64, Nat.mod_lt _ (by decide)⟩ * factor g else 0
  line : ∀ (g : Fin 4) (v : Fin 2) (k : Fin 64), b (ix2 0 (column g v k)) = (P.bi (row g k) + P.bh (row g k)) * factor g

variable (h : FVec Ideal S512x128 .f32) (xa xb : Vec Ideal S512x64 .bf16)

theorem gates_sum (r : Fin 512) (j : Fin 512) : gatesC W b h xa xb (ix2 r j)
    = (∑ d : Fin 64, xa (ix2 r d) * W (ix2 ⟨(d : ℕ), by omega⟩ j)) + (∑ d : Fin 64, xb (ix2 r d) * W (ix2 ⟨64 + (d : ℕ), by omega⟩ j))
      + (∑ d : Fin 128, h (ix2 r d) * W (ix2 ⟨128 + (d : ℕ), by omega⟩ j)) + b (ix2 0 j) := by
  pointwise [gatesC]
  rw [Fin.sum_univ_two_halves 128 128 rfl, Fin.sum_univ_two_halves 64 64 rfl]
  have f0 : ∀ d : Fin 64, (d : ℕ) < 64 := fun d => d.isLt
  have f1 : ∀ d : Fin 64, ¬ 64 + (d : ℕ) < 64 := fun d => by omega
  have f2 : ∀ d : Fin 128, ¬ 128 + (d : ℕ) < 64 := fun d => by omega
  have f3 : ∀ d : Fin 128, ¬ 128 + (d : ℕ) - 64 < 64 := fun d => by omega
  have s1 : ∀ d : Fin 64, 64 + (d : ℕ) - 64 = d := fun d => by omega
  have s2 : ∀ d : Fin 128, 128 + (d : ℕ) - 64 - 64 = d := fun d => by omega
  simp only [f0, f1, f2, f3, s1, s2, ↓reduceDIte]

theorem pre_scaled (x y : Fin 64 → EReal) (g : Fin 4) (k : Fin 64) : (∑ d, x d * (P.wi (row g k) d * factor g)) + (∑ d, y d * (P.wh (row g k) d * factor g))
    + (P.bi (row g k) + P.bh (row g k)) * factor g = pre P x y (row g k) * factor g := by
  have h0 : 0 ≤ factor g := by
    unfold factor
    split_ifs
    · exact zero_le_one
    · exact EReal.coe_nonneg.mpr (by norm_num)
  have h1 : factor g ≠ ⊤ := by
    unfold factor
    split_ifs
    · exact EReal.coe_ne_top 1
    · exact EReal.coe_ne_top _
  unfold pre
  simp only [← mul_assoc]
  rw [sum_mul_right _ _ h0 h1, sum_mul_right _ _ h0 h1, ← EReal.right_distrib_of_nonneg_of_ne_top h0 h1,
    ← EReal.right_distrib_of_nonneg_of_ne_top h0 h1, add_assoc _ (P.bi _) (P.bh _)]

variable {P W b}

theorem Holds.gates (H : Holds P W b) (r : Fin 512) (g : Fin 4) (v : Fin 2) (k : Fin 64) : gatesC W b h xa xb (ix2 r (column g v k))
    = pre P (fun d => half xa xb v (ix2 r d)) (fun d => h (ix2 r (lane v d))) (row g k) * factor g := by
  rw [gates_sum, ← pre_scaled, H.line]
  have e0 : ∀ d : Fin 64, W (ix2 ⟨(d : ℕ), by omega⟩ (column g v k)) = if 0 = (v : ℕ) then P.wi (row g k) d * factor g else 0 := by
    intro d
    have e := H.top ⟨(d : ℕ), by omega⟩ g v k
    dsimp only at e
    simp only [Nat.div_eq_of_lt d.isLt, Nat.mod_eq_of_lt d.isLt] at e
    exact e
  have e1 : ∀ d : Fin 64, W (ix2 ⟨64 + (d : ℕ), by omega⟩ (column g v k)) = if 1 = (v : ℕ) then P.wi (row g k) d * factor g else 0 := by
    intro d
    have e := H.top ⟨64 + (d : ℕ), by omega⟩ g v k
    have hd : (64 + (d : ℕ)) / 64 = 1 := by omega
    have hm : (64 + (d : ℕ)) % 64 = d := by omega
    dsimp only at e
    simp only [hd, hm] at e
    exact e
  have e2 : ∀ d : Fin 64, W (ix2 ⟨128 + (d : ℕ), by omega⟩ (column g v k)) = if 0 = (v : ℕ) then P.wh (row g k) d * factor g else 0 := by
    intro d
    have e := H.bottom ⟨(d : ℕ), by omega⟩ g v k
    dsimp only at e
    simp only [Nat.div_eq_of_lt d.isLt, Nat.mod_eq_of_lt d.isLt] at e
    exact e
  have e3 : ∀ d : Fin 64, W (ix2 ⟨128 + (64 + (d : ℕ)), by omega⟩ (column g v k)) = if 1 = (v : ℕ) then P.wh (row g k) d * factor g else 0 := by
    intro d
    have e := H.bottom ⟨64 + (d : ℕ), by omega⟩ g v k
    have hd : (64 + (d : ℕ)) / 64 = 1 := by omega
    have hm : (64 + (d : ℕ)) % 64 = d := by omega
    dsimp only at e
    simp only [hd, hm] at e
    exact e
  rw [Fin.sum_univ_two_halves 64 64 rfl]
  dsimp only
  simp only [e0, e1, e2, e3]
  unfold half lane
  fin_vals v with hv
  all_goals simp [hv]

theorem gates_at (H : Holds P W b) (r : Fin 512) (g : Fin 4) (v : Fin 2) (k : Fin 64) (j : Fin 512) (hj : (j : ℕ) = 128 * (g : ℕ) + (64 * (v : ℕ) + (k : ℕ))) :
    gatesC W b h xa xb (ix2 r j) = pre P (fun d => half xa xb v (ix2 r d)) (fun d => h (ix2 r (lane v d))) (row g k) * factor g := by
  rw [← H.gates]
  congr 2
  exact Fin.ext (by rw [hj]; unfold column; dsimp only; omega)

variable (c : FVec Ideal S512x128 .f32)

theorem open_at (z : FVec Ideal S512x128 .f32) (j : S512x128.Idx) (y : EReal) (hz : z j = y * ((1 / 2 : ℝ) : EReal)) : openC z j = Ideal.logistic y := by
  rw [← logistic_half, ← hz]
  pointwise [openC, halfC]
  rw [half_bits]

variable (H : Holds P W b) (r : Fin 512) (v : Fin 2) (k : Fin 64)
include H

/-- The logistic gate `g` of the kernel, read from its 128 lanes. -/
theorem gate_open (g : Fin 4) (hg : factor g = ((1 / 2 : ℝ) : EReal)) (z : FVec Ideal S512x128 .f32)
    (hz : z (ix2 r (lane v k)) = gatesC W b h xa xb (ix2 r ⟨128 * (g : ℕ) + (lane v k : ℕ), by omega⟩)) : openC z (ix2 r (lane v k))
      = Ideal.logistic (pre P (fun d => half xa xb v (ix2 r d)) (fun d => h (ix2 r (lane v d))) (row g k)) := by
  apply open_at
  rw [hz, ← hg]
  exact gates_at h xa xb H r g v k _ rfl

theorem cell_at : cellC (gatesC W b h xa xb) c (ix2 r (lane v k))
    = cell P (fun d => half xa xb v (ix2 r d)) (fun d => h (ix2 r (lane v d))) (fun d => c (ix2 r (lane v d))) k := by
  unfold cell
  rw [← gate_open h xa xb H r v k 1 rfl (extractStridedSlice S512x128 ![0, 128] (gatesC W b h xa xb) slices_S512x512_o0_128_S512x128),
    ← gate_open h xa xb H r v k 0 rfl (extractStridedSlice S512x128 ![0, 0] (gatesC W b h xa xb) slices_S512x512_o0_0_S512x128)]
  · have e2 := gates_at h xa xb H r 2 v k ⟨256 + (lane v k : ℕ), by omega⟩ rfl
    rw [show factor 2 = 1 from rfl, mul_one] at e2
    rw [← e2]
    generalize gatesC W b h xa xb = G
    pointwise [cellC]
  · generalize gatesC W b h xa xb = G
    pointwise
  · generalize gatesC W b h xa xb = G
    pointwise

theorem hidden_at : hiddenC (gatesC W b h xa xb) (cellC (gatesC W b h xa xb) c) (ix2 r (lane v k))
    = hidden P (fun d => half xa xb v (ix2 r d)) (fun d => h (ix2 r (lane v d))) (fun d => c (ix2 r (lane v d))) k := by
  unfold hidden
  rw [← cell_at h xa xb c H, ← gate_open h xa xb H r v k 3 rfl (extractStridedSlice S512x128 ![0, 384] (gatesC W b h xa xb) slices_S512x512_o0_384_S512x128)]
  · generalize cellC (gatesC W b h xa xb) c = C
    generalize gatesC W b h xa xb = G
    pointwise [hiddenC]
  · generalize gatesC W b h xa xb = G
    pointwise

omit H

/-! ## The carried pair of the whole run -/

section Run

variable (m : (ℓ : Loc nD τ sig) → Buf (Elt Ideal) ℓ) (c : Dev nD)

/-- The weights and the biases of core `c`. -/
def params : Params where
  wi := fun q d => (m ((c.tc : Thread nD τ).loc main_arg1) : FVec Ideal S256x64 .f32) (ix2 q d)
  wh := fun q d => (m ((c.tc : Thread nD τ).loc main_arg2) : FVec Ideal S256x64 .f32) (ix2 q d)
  bi := fun q => (m ((c.tc : Thread nD τ).loc main_arg3) : FVec Ideal S256 .f32) (ix1 q)
  bh := fun q => (m ((c.tc : Thread nD τ).loc main_arg4) : FVec Ideal S256 .f32) (ix1 q)

/-- The inputs of row `b`, step by step. -/
def inputs (b : Fin 1024) (n : ℕ) (d : Fin 64) : EReal :=
  (m ((c.tc : Thread nD τ).loc main_arg0) : FVec Ideal S1024x200x64 .f32) (ix3 b ⟨n % 200, Nat.mod_lt _ (by decide)⟩ d)

theorem holds : Holds (params m c) (k0_pay5 (arrW m c))
    (k0_pay6 (View.ld (arrB m c) (Rect.unit (s := S8x512) ![0, 0] S1x512.size inb_S8x512_S1x512_0_0))) where
  top a g v k := by
    rw [show k0_pay5 (arrW m c) = arrW m c from shapeCast_self _ _, arrW_top, twoBlocks_apply]
    rfl
  bottom a g v k := by
    rw [show k0_pay5 (arrW m c) = arrW m c from shapeCast_self _ _, arrW_bottom, twoBlocks_apply]
    rfl
  line g v k := by
    refine Eq.trans ?_ (biasLine_apply _ _ g v k)
    rw [← arrB_eq]
    unfold k0_pay6
    rw [shapeCast_self]
    generalize arrB m c = B
    pointwise

/-- Row `r` of half `v` of the batch. -/
def batch (v : Fin 2) (r : Fin 512) : Fin 1024 := ⟨512 * (v : ℕ) + (r : ℕ), by omega⟩

theorem half_in (n : ℕ) (v : Fin 2) (r : Fin 512) (d : Fin 64) :
    half (stepIn (arrX m c) 0 (by decide) n) (stepIn (arrX m c) 512 (by decide) n) v (ix2 r d) = inputs m c (batch v r) n d := by
  refine Eq.trans ?_ (arrX_apply m c (batch v r) ⟨n % 200, Nat.mod_lt _ (by decide)⟩ d)
  unfold half stepIn batch
  generalize arrX m c = X
  fin_vals v with hv
  all_goals simp only [hv]
  all_goals pointwise

theorem states_at (n : ℕ) (v : Fin 2) (r : Fin 512) (k : Fin 64) :
    (states (arrX m c) (arrW m c) (arrB m c) n).h (ix2 r (lane v k)) = (lstm (params m c) (inputs m c (batch v r)) n).1 k
    ∧ (states (arrX m c) (arrW m c) (arrB m c) n).c (ix2 r (lane v k)) = (lstm (params m c) (inputs m c (batch v r)) n).2 k := by
  induction n generalizing k with
  | zero =>
    rw [states_zero]
    unfold k0_pay3 k0_pay4
    constructor
    · pointwise [lstm]
    · pointwise [lstm]
  | succ n ih =>
    rw [states_succ]
    have e1 : (fun d => (states (arrX m c) (arrW m c) (arrB m c) n).h (ix2 r (lane v d))) = (lstm (params m c) (inputs m c (batch v r)) n).1 :=
      funext fun d => (ih d).1
    have e2 : (fun d => (states (arrX m c) (arrW m c) (arrB m c) n).c (ix2 r (lane v d))) = (lstm (params m c) (inputs m c (batch v r)) n).2 :=
      funext fun d => (ih d).2
    have e3 := funext (half_in m c n v r)
    dsimp only [stepC, lstm]
    rw [hidden_at _ _ _ _ (holds m c), cell_at _ _ _ _ (holds m c), e1, e2, e3]
    exact ⟨rfl, rfl⟩

/-- The kernel's result: the hidden state of row `b` after step `t`. -/
theorem kernelOut_at (b : Fin 1024) (t : Fin 200) (k : Fin 64) :
    kernelOut m c (ix3 b t k) = (lstm (params m c) (inputs m c b) ((t : ℕ) + 1)).1 k := by
  have e : kernelOut m c (ix3 b t k) = resArr m c (ix2 b ⟨64 * (t : ℕ) + (k : ℕ), by omega⟩) := by
    unfold kernelOut
    generalize resArr m c = R
    pointwise
    simp only [Nat.mul_comm]
  rw [e]
  unfold resArr
  by_cases hb : (b : ℕ) < 512
  · rw [outArr_lo _ _ _ _ t (ix2 ⟨(b : ℕ), hb⟩ k) rfl rfl]
    refine Eq.trans ?_ ((states_at m c (t + 1) 0 ⟨(b : ℕ), hb⟩ k).1.trans ?_)
    · generalize (states (arrX m c) (arrW m c) (arrB m c) (t + 1)).h = H
      pointwise [lo, lane]
    · rw [show batch 0 ⟨(b : ℕ), hb⟩ = b from Fin.ext (by unfold batch; simp)]
  · rw [outArr_hi _ _ _ _ t (ix2 ⟨(b : ℕ) - 512, by omega⟩ k) (by dsimp [ix2]; omega) rfl]
    refine Eq.trans ?_ ((states_at m c (t + 1) 1 ⟨(b : ℕ) - 512, by omega⟩ k).1.trans ?_)
    · generalize (states (arrX m c) (arrW m c) (arrB m c) (t + 1)).h = H
      pointwise [hi, lane]
    · rw [show batch 1 ⟨(b : ℕ) - 512, by omega⟩ = b from Fin.ext (by unfold batch; dsimp; omega)]

end Run

end Cert.Lstm
-- ==== Proof.Reference.lean ====
/-
What the reference computes: the recurrence of the model, one time step per trip of its loop.

The loop carries the input with the time steps as the first axis, the weights and biases, the number of the step, the
hidden and the cell state, and the array of the hidden states so far. After `n` trips these are the state of the model
after `n` steps and its hidden states up to there.
-/
module

public import proofs.«01_k».proof.Proof.Gen.ReferenceIdeal.Run
public import proofs.«01_k».proof.Proof.Model
public import Idealize.ShloMosaic.Lib.WordCmp
public import Idealize.ShloMosaic.Lib.Tactic.CleanTypes
public import Idealize.ShloMosaic.Lib.StableHlo.RunRead

@[expose] public section

set_option maxRecDepth 16384

noncomputable section

namespace Cert.Lstm.Ref

open Idealize.ShloMosaic Idealize.ShloMosaic.TcCoe
open Cert.ReferenceIdeal Cert.ReferenceIdeal.Gen Cert.ReferenceIdeal.Value
open Idealize.ShloMosaic.StableHlo

/-! ## One trip on arrays -/

/-- Where the slice of a step starts. -/
def starts (cnt : IVec S_ 32) : Fin 3 → Int :=
  fun k => ((![cnt, constantI S_ 32 0#32, constantI S_ 32 0#32] : Fin 3 → IVec S_ 32) k (Shape.Idx.first h_S_)).toInt

/-- The four gates before their nonlinearities. -/
def gatesR (X : FVec Ideal S200x1024x64 .f32) (wi wh : FVec Ideal S256x64 .f32) (bi bh : FVec Ideal S256 .f32) (cnt : IVec S_ 32) (h : FVec Ideal S1024x64 .f32) :
    FVec Ideal S1024x256 .f32 :=
  addf (addf (addf (Host.dotGeneral dot_S1024x64_S64x256_S1024x256_1_0_0_1_n_n none
        (shapeCast S1024x64 (Host.dynamicSlice S1x1024x64 X (starts cnt) sliceFits_S200x1024x64_S1x1024x64) shapeCasts_S1x1024x64_S1024x64)
        (transpose S64x256 [1, 0] wi transposes_S256x64_S64x256_1_0))
      (Host.dotGeneral dot_S1024x64_S64x256_S1024x256_1_0_0_1_n_n none h (transpose S64x256 [1, 0] wh transposes_S256x64_S64x256_1_0)))
      (broadcastInDim S1024x256 ![0, 1] bcast_S1x256_S1024x256_0_1 (broadcastInDim S1x256 ![1] bcast_S256_S1x256_1 bi)))
    (broadcastInDim S1024x256 ![0, 1] bcast_S1x256_S1024x256_0_1 (broadcastInDim S1x256 ![1] bcast_S256_S1x256_1 bh))

/-- The constant one. -/
def oneR : FVec Ideal S1024x64 .f32 := broadcastInDim S1024x64 ![] bcast_S_S1024x64 (constant S_ .f32 0x3F800000#32)

/-- The logistic function as the reference writes it. -/
def logisticR (z : FVec Ideal S1024x64 .f32) : FVec Ideal S1024x64 .f32 := Host.divf oneR (addf oneR (Host.exp (Host.negf z)))

/-- The next cell state from the gates `g`. -/
def cellR (g : FVec Ideal S1024x256 .f32) (c : FVec Ideal S1024x64 .f32) : FVec Ideal S1024x64 .f32 :=
  addf (mulf (logisticR (extractStridedSlice S1024x64 ![0, 64] g slices_S1024x256_S1024x64_0_64)) c)
    (mulf (logisticR (extractStridedSlice S1024x64 ![0, 0] g slices_S1024x256_S1024x64_0_0))
      (Host.tanh (extractStridedSlice S1024x64 ![0, 128] g slices_S1024x256_S1024x64_0_128)))

/-- The next hidden state from the gates and the next cell state. -/
def hiddenR (g : FVec Ideal S1024x256 .f32) (c : FVec Ideal S1024x64 .f32) : FVec Ideal S1024x64 .f32 :=
  mulf (logisticR (extractStridedSlice S1024x64 ![0, 192] g slices_S1024x256_S1024x64_0_192)) (Host.tanh c)

/-- The outputs with those of one step written. -/
def writeR (out : FVec Ideal S200x1024x64 .f32) (cnt : IVec S_ 32) (h : FVec Ideal S1024x64 .f32) : FVec Ideal S200x1024x64 .f32 :=
  Host.dynamicUpdateSlice out (broadcastInDim S1x1024x64 ![1, 2] bcast_S1024x64_S1x1024x64_1_2 h) (starts cnt) updateFits_S200x1024x64_S1x1024x64

/-- The arrays a valuation holds: the input, the weights, the biases, the step, the two states, the outputs. -/
abbrev xsOf (V : Valuation τ sig (Elt Ideal)) : FVec Ideal S200x1024x64 .f32 := V (Proc.devRef .tc main_v4_0)
abbrev wiOf (V : Valuation τ sig (Elt Ideal)) : FVec Ideal S256x64 .f32 := V (Proc.devRef .tc main_v4_1)
abbrev whOf (V : Valuation τ sig (Elt Ideal)) : FVec Ideal S256x64 .f32 := V (Proc.devRef .tc main_v4_2)
abbrev biOf (V : Valuation τ sig (Elt Ideal)) : FVec Ideal S256 .f32 := V (Proc.devRef .tc main_v4_3)
abbrev bhOf (V : Valuation τ sig (Elt Ideal)) : FVec Ideal S256 .f32 := V (Proc.devRef .tc main_v4_4)
abbrev cntOf (V : Valuation τ sig (Elt Ideal)) : IVec S_ 32 := V (Proc.devRef .tc main_v4_5)
abbrev hOf (V : Valuation τ sig (Elt Ideal)) : FVec Ideal S1024x64 .f32 := V (Proc.devRef .tc main_v4_6)
abbrev cOf (V : Valuation τ sig (Elt Ideal)) : FVec Ideal S1024x64 .f32 := V (Proc.devRef .tc main_v4_7)
abbrev outOf (V : Valuation τ sig (Elt Ideal)) : FVec Ideal S200x1024x64 .f32 := V (Proc.devRef .tc main_v4_8)

/-- The gates of a valuation. -/
abbrev gatesOf (V : Valuation τ sig (Elt Ideal)) : FVec Ideal S1024x256 .f32 := gatesR (xsOf V) (wiOf V) (whOf V) (biOf V) (bhOf V) (cntOf V) (hOf V)

variable (V : Valuation τ sig (Elt Ideal))

theorem cell_res : res_main_while0b_v43 V = cellR (gatesOf V) (cOf V) := rfl
theorem hidden_res : res_main_while0b_v45 V = hiddenR (gatesOf V) (cellR (gatesOf V) (cOf V)) := rfl
theorem step_c : cOf (STEP V) = cellR (gatesOf V) (cOf V) := (STEP_main_v4_7 V).trans (cell_res V)
theorem step_h : hOf (STEP V) = hiddenR (gatesOf V) (cellR (gatesOf V) (cOf V)) := (STEP_main_v4_6 V).trans (hidden_res V)
theorem step_out : outOf (STEP V) = writeR (outOf V) (cntOf V) (hiddenR (gatesOf V) (cellR (gatesOf V) (cOf V))) := STEP_main_v4_8 V
theorem step_cnt : cntOf (STEP V) = addi (cntOf V) (constantI S_ 32 1#32) := STEP_main_v4_5 V

/-! ## The same at an index -/

theorem starts_eq (n : ℕ) (hn : n < 200) (a : Fin 3) : starts (constantI S_ 32 (BitVec.ofNat 32 n)) a = ((![n, 0, 0] : Fin 3 → ℕ) a : ℤ) := by
  have h : (BitVec.ofNat 32 n).toInt = (n : ℤ) := by
    rw [BitVec.toInt_eq_toNat_cond, BitVec.toNat_ofNat]
    omega
  match a with
  | ⟨0, _⟩ => exact h
  | ⟨1, _⟩ => rfl
  | ⟨2, _⟩ => rfl

theorem fits (n : ℕ) (hn : n < 200) : S200x1024x64.Slices ![n, 0, 0] S1x1024x64 := by
  refine ⟨rfl, fun a => ?_⟩
  match a with
  | ⟨0, _⟩ => show n + 1 ≤ 200; omega
  | ⟨1, _⟩ => show 0 + 1024 ≤ 1024; omega
  | ⟨2, _⟩ => show 0 + 64 ≤ 64; omega

theorem gatesR_at (X : FVec Ideal S200x1024x64 .f32) (wi wh : FVec Ideal S256x64 .f32) (bi bh : FVec Ideal S256 .f32) (h : FVec Ideal S1024x64 .f32)
    (n : ℕ) (hn : n < 200) (b : Fin 1024) (q : Fin 256) : gatesR X wi wh bi bh (constantI S_ 32 (BitVec.ofNat 32 n)) h (ix2 b q)
      = pre ⟨fun q d => wi (ix2 q d), fun q d => wh (ix2 q d), fun q => bi (ix1 q), fun q => bh (ix1 q)⟩
          (fun d => X (ix3 ⟨n, hn⟩ b d)) (fun d => h (ix2 b d)) q := by
  unfold gatesR pre
  rw [WordCmp.dynamicSlice_eq_extract _ _ _ _ _ (fits n hn) (starts_eq n hn)]
  pointwise

theorem logisticR_at (z : FVec Ideal S1024x64 .f32) (j : S1024x64.Idx) : logisticR z j = Ideal.logistic (z j) := by
  unfold Ideal.logistic
  pointwise [logisticR, oneR]

theorem cellR_at (P : Params) (x h : Fin 64 → EReal) (g : FVec Ideal S1024x256 .f32) (c : FVec Ideal S1024x64 .f32) (b : Fin 1024)
    (hg : ∀ q, g (ix2 b q) = pre P x h q) (k : Fin 64) : cellR g c (ix2 b k) = cell P x h (fun d => c (ix2 b d)) k := by
  unfold cell
  simp only [← hg]
  pointwise [cellR, logisticR_at, row]

theorem hiddenR_at (P : Params) (x h : Fin 64 → EReal) (g : FVec Ideal S1024x256 .f32) (c : FVec Ideal S1024x64 .f32) (b : Fin 1024)
    (hg : ∀ q, g (ix2 b q) = pre P x h q) (k : Fin 64) : hiddenR g (cellR g c) (ix2 b k) = hidden P x h (fun d => c (ix2 b d)) k := by
  unfold hidden
  rw [← cellR_at P x h g c b hg, ← hg]
  generalize cellR g c = C
  pointwise [hiddenR, logisticR_at, row]

theorem writeR_at (out : FVec Ideal S200x1024x64 .f32) (h : FVec Ideal S1024x64 .f32) (n : ℕ) (hn : n < 200) (t : Fin 200) (b : Fin 1024) (k : Fin 64) :
    writeR out (constantI S_ 32 (BitVec.ofNat 32 n)) h (ix3 t b k) = if (t : ℕ) = n then h (ix2 b k) else out (ix3 t b k) := by
  unfold writeR
  rw [WordCmp.dynamicUpdateSlice_eq_update _ _ _ _ _ (fits n hn) (starts_eq n hn)]
  pointwise
  split_ifs with h1 h2 h2
  · rfl
  · omega
  · omega
  · rfl

/-! ## The loop -/

variable (m : (ℓ : Loc nD τ sig) → Buf (Elt Ideal) ℓ) (c : Dev nD)

/-- The weights and the biases of core `c`. -/
def params : Params where
  wi := fun q d => (m ((c.tc : Thread nD τ).loc main_arg1) : FVec Ideal S256x64 .f32) (ix2 q d)
  wh := fun q d => (m ((c.tc : Thread nD τ).loc main_arg2) : FVec Ideal S256x64 .f32) (ix2 q d)
  bi := fun q => (m ((c.tc : Thread nD τ).loc main_arg3) : FVec Ideal S256 .f32) (ix1 q)
  bh := fun q => (m ((c.tc : Thread nD τ).loc main_arg4) : FVec Ideal S256 .f32) (ix1 q)

/-- The inputs of row `b`, step by step. -/
def inputs (b : Fin 1024) (n : ℕ) (d : Fin 64) : EReal :=
  (m ((c.tc : Thread nD τ).loc main_arg0) : FVec Ideal S1024x200x64 .f32) (ix3 b ⟨n % 200, Nat.mod_lt _ (by decide)⟩ d)

/-- What the loop's buffers hold after `n` trips. -/
structure After (n : ℕ) (V : Valuation τ sig (Elt Ideal)) : Prop where
  xs : xsOf V = transpose S200x1024x64 [1, 0, 2] (m ((c.tc : Thread nD τ).loc main_arg0) : FVec Ideal S1024x200x64 .f32) transposes_S1024x200x64_S200x1024x64_1_0_2
  wi : wiOf V = m ((c.tc : Thread nD τ).loc main_arg1)
  wh : whOf V = m ((c.tc : Thread nD τ).loc main_arg2)
  bi : biOf V = m ((c.tc : Thread nD τ).loc main_arg3)
  bh : bhOf V = m ((c.tc : Thread nD τ).loc main_arg4)
  count : cntOf V = constantI S_ 32 (BitVec.ofNat 32 n)
  hid : ∀ b k, hOf V (ix2 b k) = (lstm (params m c) (inputs m c b) n).1 k
  cel : ∀ b k, cOf V (ix2 b k) = (lstm (params m c) (inputs m c b) n).2 k
  out : ∀ (t : Fin 200) b k, (t : ℕ) < n → outOf V (ix3 t b k) = (lstm (params m c) (inputs m c b) ((t : ℕ) + 1)).1 k

variable {V m c}

theorem After.gates {n : ℕ} (A : After m c n V) (hn : n < 200) (b : Fin 1024) (q : Fin 256) :
    gatesOf V (ix2 b q) = pre (params m c) (inputs m c b n) (lstm (params m c) (inputs m c b) n).1 q := by
  unfold gatesOf
  rw [A.count, gatesR_at _ _ _ _ _ _ n hn, A.xs, A.wi, A.wh, A.bi, A.bh, funext (A.hid b)]
  have e : (fun d => transpose S200x1024x64 [1, 0, 2] (m ((c.tc : Thread nD τ).loc main_arg0) : FVec Ideal S1024x200x64 .f32)
      transposes_S1024x200x64_S200x1024x64_1_0_2 (ix3 ⟨n, hn⟩ b d)) = inputs m c b n := by
    funext d
    have hm : n % 200 = n := Nat.mod_eq_of_lt hn
    unfold inputs
    generalize (m ((c.tc : Thread nD τ).loc main_arg0) : FVec Ideal S1024x200x64 .f32) = X
    simp only [hm]
    pointwise
  rw [e]
  rfl

theorem After.next {n : ℕ} (A : After m c n V) (hn : n < 200) : After m c (n + 1) (STEP V) where
  xs := (STEP_main_v4_0 V).trans A.xs
  wi := (STEP_main_v4_1 V).trans A.wi
  wh := (STEP_main_v4_2 V).trans A.wh
  bi := (STEP_main_v4_3 V).trans A.bi
  bh := (STEP_main_v4_4 V).trans A.bh
  count := by
    rw [step_cnt, A.count]
    funext i
    show BitVec.ofNat 32 n + 1#32 = BitVec.ofNat 32 (n + 1)
    rw [BitVec.ofNat_add]
  hid b k := by
    rw [step_h, hiddenR_at _ _ _ _ _ b (A.gates hn b), funext (A.cel b)]
    rfl
  cel b k := by
    rw [step_c, cellR_at _ _ _ _ _ b (A.gates hn b), funext (A.cel b)]
    rfl
  out t b k ht := by
    rw [step_out, A.count, writeR_at _ _ n hn]
    split_ifs with h
    · rw [hiddenR_at _ _ _ _ _ b (A.gates hn b), funext (A.cel b), h]
      rfl
    · exact A.out t b k (by omega)

variable (m c)

/-- The loop starts from the zero state. -/
theorem entry : After m c 0 (entryContents preI m c) where
  xs := by
    show StableHlo.after hostOps0 (launchContents m c) (Proc.devRef .tc main_v4_0) = _
    after_reads_simp
    rfl
  wi := by
    show StableHlo.after hostOps0 (launchContents m c) (Proc.devRef .tc main_v4_1) = _
    after_reads_simp
    rfl
  wh := by
    show StableHlo.after hostOps0 (launchContents m c) (Proc.devRef .tc main_v4_2) = _
    after_reads_simp
    rfl
  bi := by
    show StableHlo.after hostOps0 (launchContents m c) (Proc.devRef .tc main_v4_3) = _
    after_reads_simp
    rfl
  bh := by
    show StableHlo.after hostOps0 (launchContents m c) (Proc.devRef .tc main_v4_4) = _
    after_reads_simp
    rfl
  count := by
    show StableHlo.after hostOps0 (launchContents m c) (Proc.devRef .tc main_v4_5) = _
    after_reads_simp
    rfl
  hid b k := by
    have e : hOf (entryContents preI m c) = broadcastInDim S1024x64 ![] bcast_S_S1024x64 (constant S_ .f32 0x00000000#32) := by
      show StableHlo.after hostOps0 (launchContents m c) (Proc.devRef .tc main_v4_6) = _
      after_reads_simp
      rfl
    rw [e]
    pointwise [lstm]
  cel b k := by
    have e : cOf (entryContents preI m c) = broadcastInDim S1024x64 ![] bcast_S_S1024x64 (constant S_ .f32 0x00000000#32) := by
      show StableHlo.after hostOps0 (launchContents m c) (Proc.devRef .tc main_v4_7) = _
      after_reads_simp
      rfl
    rw [e]
    pointwise [lstm]
  out t b k ht := absurd ht (Nat.not_lt_zero _)

theorem trips (n : ℕ) (hn : n ≤ 200) : After m c n (STEP^[n] (entryContents preI m c)) := by
  induction n with
  | zero => exact entry m c
  | succ n ih =>
    rw [Function.iterate_succ_apply']
    exact (ih (by omega)).next (by omega)

/-- The reference's result: the hidden state of row `b` after step `t`. -/
theorem out_at (b : Fin 1024) (t : Fin 200) (k : Fin 64) :
    (out_main_v5 (STEP^[200] (entryContents preI m c)) : FVec Ideal S1024x200x64 .f32) (ix3 b t k)
      = (lstm (params m c) (inputs m c b) ((t : ℕ) + 1)).1 k := by
  rw [← (trips m c 200 le_rfl).out t b k t.isLt]
  unfold out_main_v5 outOf
  generalize (STEP^[200] (entryContents preI m c)) = V
  clean_types
  pointwise

end Cert.Lstm.Ref
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Step
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.SL.Sem

/-- The reference runs to the end, leaves its arguments alone, and declares no semaphore. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From equal arguments the kernel's result and the reference's are equal. -/
theorem results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.out_main_v5 (Cert.ReferenceIdeal.Value.STEP^[200] (StableHlo.entryContents Cert.ReferenceIdeal.Value.preI m' c))
      = Cert.Lstm.kernelOut m c := by
  have hp : Cert.Lstm.Ref.params m' c = Cert.Lstm.params m c := by
    unfold Cert.Lstm.Ref.params Cert.Lstm.params
    rw [h1, h2, h3, h4]
  have hx : Cert.Lstm.Ref.inputs m' c = Cert.Lstm.inputs m c := by
    unfold Cert.Lstm.Ref.inputs Cert.Lstm.inputs
    rw [h0]
  funext j
  obtain ⟨b, t, k, rfl⟩ : ∃ (b : Fin 1024) (t : Fin 200) (k : Fin 64), j = ix3 b t k := ⟨j 0, j 1, j 2, eq_ix3 j⟩
  refine (Cert.Lstm.Ref.out_at m' c b t k).trans ?_
  rw [hp, hx]
  exact (Cert.Lstm.kernelOut_at m c b t k).symm

/-- Kernel and reference run to equal results from equal arguments. -/
theorem algebraic : Cert.algebraic_KernelIdeal_ReferenceIdeal := fun m g m' g' _ hargs =>
  ⟨fun c => Cert.Lstm.kernelOut m c, Cert.Lstm.kernel_run m g,
    (θ_run Cert.ReferenceIdeal.defs _ _).mono
      (fun r h c => ⟨(h c).1.trans (results m m' c (hargs c).1 (hargs c).2.1 (hargs c).2.2.1 (hargs c).2.2.2.1 (hargs c).2.2.2.2), (h c).2⟩)
      (Cert.ReferenceIdeal.Value.run (F := Ideal) m' g')⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, algebraic⟩

end Cert.Proof

end
